-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v59) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192 : Shape := ⟨2, ![4, 8192]⟩
abbrev S1024x128 : Shape := ⟨2, ![1024, 128]⟩
abbrev S4x8192x128 : Shape := ⟨3, ![4, 8192, 128]⟩
abbrev S1040 : Shape := ⟨1, ![1040]⟩
abbrev S1024 : Shape := ⟨1, ![1024]⟩
abbrev S16 : Shape := ⟨1, ![16]⟩
abbrev S2x8x16 : Shape := ⟨3, ![2, 8, 16]⟩
abbrev S6x128x128 : Shape := ⟨3, ![6, 128, 128]⟩
abbrev S1041x128 : Shape := ⟨2, ![1041, 128]⟩
abbrev S128 : Shape := ⟨1, ![128]⟩
abbrev S6 : Shape := ⟨1, ![6]⟩
abbrev S3 : Shape := ⟨1, ![3]⟩
abbrev S_ : Shape := ⟨0, ![]⟩
abbrev S64x128 : Shape := ⟨2, ![64, 128]⟩
abbrev S1x128 : Shape := ⟨2, ![1, 128]⟩
abbrev S1x16 : Shape := ⟨2, ![1, 16]⟩
abbrev S1x1024 : Shape := ⟨2, ![1, 1024]⟩
abbrev S1x1x16 : Shape := ⟨3, ![1, 1, 16]⟩
abbrev S1x32x128 : Shape := ⟨3, ![1, 32, 128]⟩
abbrev S32x128 : Shape := ⟨2, ![32, 128]⟩
abbrev S32 : Shape := ⟨1, ![32]⟩
abbrev S1 : Shape := ⟨1, ![1]⟩
abbrev S1x64x128 : Shape := ⟨3, ![1, 64, 128]⟩
abbrev S64 : Shape := ⟨1, ![64]⟩
abbrev S1x128x128 : Shape := ⟨3, ![1, 128, 128]⟩
abbrev S128x128 : Shape := ⟨2, ![128, 128]⟩

abbrev nBuf : Table → Nat
  | .hbm => 3
  | .shared => 2
  | .local .scVector .vmem => 8
  | _ => 0

abbrev bufTy : (tb : Table) → Fin (nBuf tb) → BufTy
  | .hbm, ⟨0, _⟩ => ⟨S4x8192, .i32⟩
  | .hbm, ⟨1, _⟩ => ⟨S1024x128, .f32⟩
  | .hbm, ⟨2, _⟩ => ⟨S4x8192x128, .f32⟩
  | .shared, ⟨0, _⟩ => ⟨S2x8x16, .i32⟩
  | .shared, ⟨1, _⟩ => ⟨S1041x128, .f32⟩
  | .local .scVector .vmem, ⟨0, _⟩ => ⟨S1040, .i32⟩
  | .local .scVector .vmem, ⟨1, _⟩ => ⟨S1024, .i32⟩
  | .local .scVector .vmem, ⟨2, _⟩ => ⟨S1024, .i32⟩
  | .local .scVector .vmem, ⟨3, _⟩ => ⟨S1024, .i32⟩
  | .local .scVector .vmem, ⟨4, _⟩ => ⟨S16, .i32⟩
  | .local .scVector .vmem, ⟨5, _⟩ => ⟨S2x8x16, .i32⟩
  | .local .scVector .vmem, ⟨6, _⟩ => ⟨S6x128x128, .f32⟩
  | .local .scVector .vmem, ⟨7, _⟩ => ⟨S128, .f32⟩
  | _, _ => ⟨S4x8192, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 25 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | _ => false

abbrev sig : RefSig :=
  ofTables nBuf rfl bufTy 5 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch7 : Ref sig .scVector := ⟨.shared, 0, rfl⟩
abbrev cc0_scratch8 : Ref sig .scVector := ⟨.shared, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch9 : Ref sig .scVector := ⟨.vmem, 7, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c64_i32_0 : BitVec 32 := 64#32
  let v6 : BitVec 32 := Scalar.muli arg1 c64_i32_0
  let c0_i32 : BitVec 32 := 0#32
  ![v6.toNat, 0]
def k0_off2 (i : grid0.Coords) : Fin 2 → Nat :=
  let arg1 : BitVec 32 := BitVec.ofNat 32 (i 1).val
  let c64_i32 : BitVec 32 := 64#32
  let v5 : BitVec 32 := Scalar.muli arg1 c64_i32
  let c0_i32_1 : BitVec 32 := 0#32
  ![v5.toNat, 0]
def k0_off3 (i : grid0.Coords) : Fin 2 → Nat :=
  let c1024_i32_2 : BitVec 32 := 1024#32
  let arg1 : BitVec 32 := BitVec.ofNat 32 (i 1).val
  let v9 : BitVec 32 := Scalar.addi c1024_i32_2 arg1
  let c0_i32_3 : BitVec 32 := 0#32
  ![v9.toNat, 0]
def k0_mult1 (i : grid0.Coords) : BitVec 32 :=
  let arg1 : BitVec 32 := BitVec.ofNat 32 (i 1).val
  let c7_i32 : BitVec 32 := 7#32
  let v1 : BitVec 32 := Scalar.andi arg1 c7_i32
  let c0_i32_8 : BitVec 32 := 0#32
  let v15 : BitVec 1 := Scalar.cmpi .sgt v1 c0_i32_8
  let c1024_i32 : BitVec 32 := 1024#32
  let v4 : BitVec 32 := Scalar.muli v1 c1024_i32
  let c16_i32 : BitVec 32 := 16#32
  let v16 : BitVec 32 := Scalar.subi v4 c16_i32
  let v17 : BitVec 32 := Scalar.select v15 v16 v4
  v17
def k0_off4 (i : grid0.Coords) : Fin 2 → Nat :=
  let c2_i32 : BitVec 32 := 2#32
  let arg0 : BitVec 32 := BitVec.ofNat 32 (i 0).val
  let v2 : BitVec 32 := Scalar.muli c2_i32 arg0
  let arg1 : BitVec 32 := BitVec.ofNat 32 (i 1).val
  let c3_i32 : BitVec 32 := 3#32
  let v0 : BitVec 32 := Scalar.shrsi arg1 c3_i32
  let v3 : BitVec 32 := Scalar.addi v2 v0
  let c7_i32 : BitVec 32 := 7#32
  let v1 : BitVec 32 := Scalar.andi arg1 c7_i32
  let c0_i32_8 : BitVec 32 := 0#32
  let v15 : BitVec 1 := Scalar.cmpi .sgt v1 c0_i32_8
  let c1024_i32 : BitVec 32 := 1024#32
  let v4 : BitVec 32 := Scalar.muli v1 c1024_i32
  let c16_i32 : BitVec 32 := 16#32
  let v16 : BitVec 32 := Scalar.subi v4 c16_i32
  let v17 : BitVec 32 := Scalar.select v15 v16 v4
  let v18 : BitVec 32 := v17
  ![v3.toNat, v18.toNat]
def k0_off5 (i : grid0.Coords) : Fin 2 → Nat :=
  let c2_i32 : BitVec 32 := 2#32
  let arg0 : BitVec 32 := BitVec.ofNat 32 (i 0).val
  let v2 : BitVec 32 := Scalar.muli c2_i32 arg0
  let arg1 : BitVec 32 := BitVec.ofNat 32 (i 1).val
  let c3_i32 : BitVec 32 := 3#32
  let v0 : BitVec 32 := Scalar.shrsi arg1 c3_i32
  let v3 : BitVec 32 := Scalar.addi v2 v0
  let c7_i32 : BitVec 32 := 7#32
  let v1 : BitVec 32 := Scalar.andi arg1 c7_i32
  let c1024_i32 : BitVec 32 := 1024#32
  let v4 : BitVec 32 := Scalar.muli v1 c1024_i32
  ![v3.toNat, v4.toNat]
def k0_off6 (i : grid0.Coords) : Fin 3 → Nat :=
  let arg1 : BitVec 32 := BitVec.ofNat 32 (i 1).val
  let c3_i32 : BitVec 32 := 3#32
  let v0 : BitVec 32 := Scalar.shrsi arg1 c3_i32
  let c7_i32 : BitVec 32 := 7#32
  let v1 : BitVec 32 := Scalar.andi arg1 c7_i32
  let c0_i32_2349_r1 : BitVec 32 := 0#32
  ![v0.toNat, v1.toNat, 0]
def k0_off7 (i : grid0.Coords) : Fin 3 → Nat :=
  let arg1 : BitVec 32 := BitVec.ofNat 32 (i 1).val
  let c3_i32 : BitVec 32 := 3#32
  let v0 : BitVec 32 := Scalar.shrsi arg1 c3_i32
  let v3769 : Index := Scalar.indexCast v0
  let c0_i32_1367 : BitVec 32 := 0#32
  let v3770 : Index := Scalar.indexCast c0_i32_1367
  let c0_1368 : Index := 0#32
  ![v3769.toNat, 0, 0]
def k0_off8 (i : grid0.Coords) : Fin 3 → Nat :=
  let arg1 : BitVec 32 := BitVec.ofNat 32 (i 1).val
  let c3_i32 : BitVec 32 := 3#32
  let v0 : BitVec 32 := Scalar.shrsi arg1 c3_i32
  let v3781 : Index := Scalar.indexCast v0
  let c1_i32_1374 : BitVec 32 := 1#32
  let v3782 : Index := Scalar.indexCast c1_i32_1374
  let c0_1375 : Index := 0#32
  ![v3781.toNat, 1, 0]
def k0_off9 (i : grid0.Coords) : Fin 3 → Nat :=
  let arg1 : BitVec 32 := BitVec.ofNat 32 (i 1).val
  let c3_i32 : BitVec 32 := 3#32
  let v0 : BitVec 32 := Scalar.shrsi arg1 c3_i32
  let v3793 : Index := Scalar.indexCast v0
  let c2_i32_1379 : BitVec 32 := 2#32
  let v3794 : Index := Scalar.indexCast c2_i32_1379
  let c0_1380 : Index := 0#32
  ![v3793.toNat, 2, 0]
def k0_off10 (i : grid0.Coords) : Fin 3 → Nat :=
  let arg1 : BitVec 32 := BitVec.ofNat 32 (i 1).val
  let c3_i32 : BitVec 32 := 3#32
  let v0 : BitVec 32 := Scalar.shrsi arg1 c3_i32
  let v3805 : Index := Scalar.indexCast v0
  let c3_i32_1384 : BitVec 32 := 3#32
  let v3806 : Index := Scalar.indexCast c3_i32_1384
  let c0_1385 : Index := 0#32
  ![v3805.toNat, 3, 0]
def k0_off11 (i : grid0.Coords) : Fin 3 → Nat :=
  let arg1 : BitVec 32 := BitVec.ofNat 32 (i 1).val
  let c3_i32 : BitVec 32 := 3#32
  let v0 : BitVec 32 := Scalar.shrsi arg1 c3_i32
  let v3817 : Index := Scalar.indexCast v0
  let c4_i32 : BitVec 32 := 4#32
  let v3818 : Index := Scalar.indexCast c4_i32
  let c0_1389 : Index := 0#32
  ![v3817.toNat, 4, 0]
def k0_off12 (i : grid0.Coords) : Fin 3 → Nat :=
  let arg1 : BitVec 32 := BitVec.ofNat 32 (i 1).val
  let c3_i32 : BitVec 32 := 3#32
  let v0 : BitVec 32 := Scalar.shrsi arg1 c3_i32
  let v3829 : Index := Scalar.indexCast v0
  let c5_i32 : BitVec 32 := 5#32
  let v3830 : Index := Scalar.indexCast c5_i32
  let c0_1393 : Index := 0#32
  ![v3829.toNat, 5, 0]
def k0_off13 (i : grid0.Coords) : Fin 3 → Nat :=
  let arg1 : BitVec 32 := BitVec.ofNat 32 (i 1).val
  let c3_i32 : BitVec 32 := 3#32
  let v0 : BitVec 32 := Scalar.shrsi arg1 c3_i32
  let v3841 : Index := Scalar.indexCast v0
  let c6_i32 : BitVec 32 := 6#32
  let v3842 : Index := Scalar.indexCast c6_i32
  let c0_1397 : Index := 0#32
  ![v3841.toNat, 6, 0]
def k0_off14 (i : grid0.Coords) (c0_i32_1401 : BitVec 32) : Fin 3 → Nat :=
  let c2_i32 : BitVec 32 := 2#32
  let arg0 : BitVec 32 := BitVec.ofNat 32 (i 0).val
  let v2 : BitVec 32 := Scalar.muli c2_i32 arg0
  let arg1 : BitVec 32 := BitVec.ofNat 32 (i 1).val
  let c3_i32 : BitVec 32 := 3#32
  let v0 : BitVec 32 := Scalar.shrsi arg1 c3_i32
  let v3 : BitVec 32 := Scalar.addi v2 v0
  let c7_i32 : BitVec 32 := 7#32
  let v1 : BitVec 32 := Scalar.andi arg1 c7_i32
  let c1024_i32 : BitVec 32 := 1024#32
  let v4 : BitVec 32 := Scalar.muli v1 c1024_i32
  let v3853 : BitVec 32 := Scalar.addi v4 c0_i32_1401
  let c0_i32_1474 : BitVec 32 := 0#32
  ![v3.toNat, v3853.toNat, 0]
def k0_off15 (i : grid0.Coords) : Fin 3 → Nat :=
  let c2_i32 : BitVec 32 := 2#32
  let arg0 : BitVec 32 := BitVec.ofNat 32 (i 0).val
  let v2 : BitVec 32 := Scalar.muli c2_i32 arg0
  let arg1 : BitVec 32 := BitVec.ofNat 32 (i 1).val
  let c3_i32 : BitVec 32 := 3#32
  let v0 : BitVec 32 := Scalar.shrsi arg1 c3_i32
  let v3 : BitVec 32 := Scalar.addi v2 v0
  let c7_i32 : BitVec 32 := 7#32
  let v1 : BitVec 32 := Scalar.andi arg1 c7_i32
  let c1024_i32 : BitVec 32 := 1024#32
  let v4 : BitVec 32 := Scalar.muli v1 c1024_i32
  let c64_i32_1403 : BitVec 32 := 64#32
  let v3855 : BitVec 32 := Scalar.addi v4 c64_i32_1403
  let c0_i32_1638 : BitVec 32 := 0#32
  ![v3.toNat, v3855.toNat, 0]
def k0_off16 (i : grid0.Coords) (c128_i32_1404 : BitVec 32) : Fin 3 → Nat :=
  let c2_i32 : BitVec 32 := 2#32
  let arg0 : BitVec 32 := BitVec.ofNat 32 (i 0).val
  let v2 : BitVec 32 := Scalar.muli c2_i32 arg0
  let arg1 : BitVec 32 := BitVec.ofNat 32 (i 1).val
  let c3_i32 : BitVec 32 := 3#32
  let v0 : BitVec 32 := Scalar.shrsi arg1 c3_i32
  let v3 : BitVec 32 := Scalar.addi v2 v0
  let c7_i32 : BitVec 32 := 7#32
  let v1 : BitVec 32 := Scalar.andi arg1 c7_i32
  let c1024_i32 : BitVec 32 := 1024#32
  let v4 : BitVec 32 := Scalar.muli v1 c1024_i32
  let v3856 : BitVec 32 := Scalar.addi v4 c128_i32_1404
  let c0_i32_1740 : BitVec 32 := 0#32
  ![v3.toNat, v3856.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x8192 : Shape := ⟨2, ![4, 8192]⟩
abbrev S1024x128 : Shape := ⟨2, ![1024, 128]⟩
abbrev S11 : Shape := ⟨1, ![11]⟩
abbrev S2 : Shape := ⟨1, ![2]⟩
abbrev S32768 : Shape := ⟨1, ![32768]⟩
abbrev S32768x1 : Shape := ⟨2, ![32768, 1]⟩
abbrev S1x11 : Shape := ⟨2, ![1, 11]⟩
abbrev S32768x11 : Shape := ⟨2, ![32768, 11]⟩
abbrev S_ : Shape := ⟨0, ![]⟩
abbrev S13 : Shape := ⟨1, ![13]⟩
abbrev S1x13 : Shape := ⟨2, ![1, 13]⟩
abbrev S32768x13 : Shape := ⟨2, ![32768, 13]⟩
abbrev S4x1 : Shape := ⟨2, ![4, 1]⟩
abbrev S4x8191 : Shape := ⟨2, ![4, 8191]⟩
abbrev S8192 : Shape := ⟨1, ![8192]⟩
abbrev S4 : Shape := ⟨1, ![4]⟩
abbrev S4x8192x1 : Shape := ⟨3, ![4, 8192, 1]⟩
abbrev S4x8192x2 : Shape := ⟨3, ![4, 8192, 2]⟩
abbrev S1 : Shape := ⟨1, ![1]⟩
abbrev S1x1x1 : Shape := ⟨3, ![1, 1, 1]⟩
abbrev S4x8192x128 : Shape := ⟨3, ![4, 8192, 128]⟩

abbrev nBuf : Space → Nat
  | .hbm => 115
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S1024x128, .f32⟩
  | .hbm, ⟨2, _⟩ => ⟨S11, .i32⟩
  | .hbm, ⟨3, _⟩ => ⟨S2, .i32⟩
  | .hbm, ⟨4, _⟩ => ⟨S32768, .i32⟩
  | .hbm, ⟨5, _⟩ => ⟨S32768x1, .i32⟩
  | .hbm, ⟨6, _⟩ => ⟨S1x11, .i32⟩
  | .hbm, ⟨7, _⟩ => ⟨S32768x11, .i32⟩
  | .hbm, ⟨8, _⟩ => ⟨S32768x11, .i32⟩
  | .hbm, ⟨9, _⟩ => ⟨S32768x11, .i1⟩
  | .hbm, ⟨10, _⟩ => ⟨S_, .i1⟩
  | .hbm, ⟨11, _⟩ => ⟨S32768, .i1⟩
  | .hbm, ⟨12, _⟩ => ⟨S4x8192, .i1⟩
  | .hbm, ⟨13, _⟩ => ⟨S13, .i32⟩
  | .hbm, ⟨14, _⟩ => ⟨S32768, .i32⟩
  | .hbm, ⟨15, _⟩ => ⟨S32768x1, .i32⟩
  | .hbm, ⟨16, _⟩ => ⟨S1x13, .i32⟩
  | .hbm, ⟨17, _⟩ => ⟨S32768x13, .i32⟩
  | .hbm, ⟨18, _⟩ => ⟨S32768x13, .i32⟩
  | .hbm, ⟨19, _⟩ => ⟨S32768x13, .i1⟩
  | .hbm, ⟨20, _⟩ => ⟨S_, .i1⟩
  | .hbm, ⟨21, _⟩ => ⟨S32768, .i1⟩
  | .hbm, ⟨22, _⟩ => ⟨S4x8192, .i1⟩
  | .hbm, ⟨23, _⟩ => ⟨S_, .i1⟩
  | .hbm, ⟨24, _⟩ => ⟨S4x1, .i1⟩
  | .hbm, ⟨25, _⟩ => ⟨S4x8191, .i1⟩
  | .hbm, ⟨26, _⟩ => ⟨S4x8192, .i1⟩
  | .hbm, ⟨27, _⟩ => ⟨S4x8192, .i1⟩
  | .hbm, ⟨28, _⟩ => ⟨S4x8192, .i1⟩
  | .hbm, ⟨29, _⟩ => ⟨S4x8192, .i32⟩
  | .hbm, ⟨30, _⟩ => ⟨S_, .i32⟩
  | .hbm, ⟨31, _⟩ => ⟨S_, .i32⟩
  | .hbm, ⟨32, _⟩ => ⟨S4x8192, .i32⟩
  | .hbm, ⟨33, _⟩ => ⟨S8192, .i32⟩
  | .hbm, ⟨34, _⟩ => ⟨S4x8192, .i32⟩
  | .hbm, ⟨35, _⟩ => ⟨S4x8192, .i32⟩
  | .hbm, ⟨36, _⟩ => ⟨S4x8192, .i32⟩
  | .hbm, ⟨37, _⟩ => ⟨S4, .i32⟩
  | .hbm, ⟨38, _⟩ => ⟨S4x1, .i32⟩
  | .hbm, ⟨39, _⟩ => ⟨S4x8192, .i32⟩
  | .hbm, ⟨40, _⟩ => ⟨S_, .i32⟩
  | .hbm, ⟨41, _⟩ => ⟨S4x8192, .i32⟩
  | .hbm, ⟨42, _⟩ => ⟨S_, .i32⟩
  | .hbm, ⟨43, _⟩ => ⟨S4x8192, .i32⟩
  | .hbm, ⟨44, _⟩ => ⟨S4x8192, .i1⟩
  | .hbm, ⟨45, _⟩ => ⟨S_, .i32⟩
  | .hbm, ⟨46, _⟩ => ⟨S4x8192, .i32⟩
  | .hbm, ⟨47, _⟩ => ⟨S4x8192, .i32⟩
  | .hbm, ⟨48, _⟩ => ⟨S4x8192, .i32⟩
  | .hbm, ⟨49, _⟩ => ⟨S_, .i32⟩
  | .hbm, ⟨50, _⟩ => ⟨S4x8192, .i32⟩
  | .hbm, ⟨51, _⟩ => ⟨S4x8192, .i1⟩
  | .hbm, ⟨52, _⟩ => ⟨S_, .i32⟩
  | .hbm, ⟨53, _⟩ => ⟨S4x8192, .i32⟩
  | .hbm, ⟨54, _⟩ => ⟨S4x8192, .i32⟩
  | .hbm, ⟨55, _⟩ => ⟨S4x8192, .i32⟩
  | .hbm, ⟨56, _⟩ => ⟨S4x8192x1, .i32⟩
  | .hbm, ⟨57, _⟩ => ⟨S4x8192x1, .i32⟩
  | .hbm, ⟨58, _⟩ => ⟨S4x8192x2, .i32⟩
  | .hbm, ⟨59, _⟩ => ⟨S4x8192, .i32⟩
  | .hbm, ⟨60, _⟩ => ⟨S_, .i32⟩
  | .hbm, ⟨61, _⟩ => ⟨S4x8192, .i32⟩
  | .hbm, ⟨62, _⟩ => ⟨S4x8192, .i1⟩
  | .hbm, ⟨63, _⟩ => ⟨S_, .i32⟩
  | .hbm, ⟨64, _⟩ => ⟨S4x8192, .i32⟩
  | .hbm, ⟨65, _⟩ => ⟨S4x8192, .i32⟩
  | .hbm, ⟨66, _⟩ => ⟨S4x8192, .i32⟩
  | .hbm, ⟨67, _⟩ => ⟨S_, .i32⟩
  | .hbm, ⟨68, _⟩ => ⟨S4x8192, .i32⟩
  | .hbm, ⟨69, _⟩ => ⟨S4x8192, .i1⟩
  | .hbm, ⟨70, _⟩ => ⟨S_, .i32⟩
  | .hbm, ⟨71, _⟩ => ⟨S4x8192, .i32⟩
  | .hbm, ⟨72, _⟩ => ⟨S4x8192, .i32⟩
  | .hbm, ⟨73, _⟩ => ⟨S4x8192, .i32⟩
  | .hbm, ⟨74, _⟩ => ⟨S4x8192x1, .i32⟩
  | .hbm, ⟨75, _⟩ => ⟨S4x8192x1, .i32⟩
  | .hbm, ⟨76, _⟩ => ⟨S4x8192x2, .i32⟩
  | .hbm, ⟨77, _⟩ => ⟨S4x8192, .i32⟩
  | .hbm, ⟨78, _⟩ => ⟨S4x8192, .i32⟩
  | .hbm, ⟨79, _⟩ => ⟨S_, .i32⟩
  | .hbm, ⟨80, _⟩ => ⟨S4x8192, .i32⟩
  | .hbm, ⟨81, _⟩ => ⟨S4x8192, .i32⟩
  | .hbm, ⟨82, _⟩ => ⟨S4x8192, .i32⟩
  | .hbm, ⟨83, _⟩ => ⟨S4x8192, .i32⟩
  | .hbm, ⟨84, _⟩ => ⟨S_, .i32⟩
  | .hbm, ⟨85, _⟩ => ⟨S4x8192, .i32⟩
  | .hbm, ⟨86, _⟩ => ⟨S4x8192, .i1⟩
  | .hbm, ⟨87, _⟩ => ⟨S4x8192, .i32⟩
  | .hbm, ⟨88, _⟩ => ⟨S_, .i32⟩
  | .hbm, ⟨89, _⟩ => ⟨S4x8192, .i32⟩
  | .hbm, ⟨90, _⟩ => ⟨S4x8192, .i32⟩
  | .hbm, ⟨91, _⟩ => ⟨S4x8192, .i32⟩
  | .hbm, ⟨92, _⟩ => ⟨S_, .i32⟩
  | .hbm, ⟨93, _⟩ => ⟨S4x8192, .i32⟩
  | .hbm, ⟨94, _⟩ => ⟨S4x8192, .i1⟩
  | .hbm, ⟨95, _⟩ => ⟨S_, .i32⟩
  | .hbm, ⟨96, _⟩ => ⟨S4x8192, .i32⟩
  | .hbm, ⟨97, _⟩ => ⟨S4x8192, .i32⟩
  | .hbm, ⟨98, _⟩ => ⟨S4x8192, .i32⟩
  | .hbm, ⟨99, _⟩ => ⟨S4x8192x1, .i32⟩
  | .hbm, ⟨100, _⟩ => ⟨S1, .i32⟩
  | .hbm, ⟨101, _⟩ => ⟨S_, .i32⟩
  | .hbm, ⟨102, _⟩ => ⟨S4x8192x1, .i32⟩
  | .hbm, ⟨103, _⟩ => ⟨S4x8192x1, .i1⟩
  | .hbm, ⟨104, _⟩ => ⟨S1x1x1, .i32⟩
  | .hbm, ⟨105, _⟩ => ⟨S4x8192x1, .i32⟩
  | .hbm, ⟨106, _⟩ => ⟨S4x8192x1, .i1⟩
  | .hbm, ⟨107, _⟩ => ⟨S4x8192x1, .i1⟩
  | .hbm, ⟨108, _⟩ => ⟨S_, .i1⟩
  | .hbm, ⟨109, _⟩ => ⟨S4x8192, .i1⟩
  | .hbm, ⟨110, _⟩ => ⟨S4x8192x128, .f32⟩
  | .hbm, ⟨111, _⟩ => ⟨S4x8192x128, .i1⟩
  | .hbm, ⟨112, _⟩ => ⟨S_, .f32⟩
  | .hbm, ⟨113, _⟩ => ⟨S4x8192x128, .f32⟩
  | .hbm, ⟨114, _⟩ => ⟨S4x8192x128, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_c : Ref sig .tc := ⟨.hbm, 20, rfl⟩
abbrev main_v3 : Ref sig .tc := ⟨.hbm, 21, rfl⟩
abbrev main_v4 : Ref sig .tc := ⟨.hbm, 22, rfl⟩
abbrev main_c_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call2_call0_c : Ref sig .tc := ⟨.hbm, 30, rfl⟩
abbrev main_call2_call0_v0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_c_3 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_c_6 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_9 : Ref sig .tc := ⟨.hbm, 67, rfl⟩
abbrev main_v39 : Ref sig .tc := ⟨.hbm, 68, rfl⟩
abbrev main_v40 : Ref sig .tc := ⟨.hbm, 69, rfl⟩
abbrev main_c_10 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_11 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_12 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_13 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v59 : Ref sig .tc := ⟨.hbm, 114, rfl⟩

abbrev nD : Nat := 1
abbrev τ : Topo := Topo.v7x

variable {F : FTy → Type} [FloatOps F]
-- ==== Proof.Body.lean ====
module

public import proofs.«01_k».proof.KernelIdeal
public import proofs.«01_k».proof.Proof.Gen.KernelIdeal
public import Idealize.ShloMosaic.Lib.SparseCore.Ops

@[expose] public section

noncomputable section

namespace Cert.Proof.Embed

open Cert.KernelIdeal Cert.KernelIdeal.Gen
open Idealize.ShloMosaic Idealize.SL.Sem

variable {F : FTy → Type} [FloatOps F]

/-! ## The arrays as the tile names them -/

abbrev idsH : Memref sig .scVector .hbm S4x8192 .i32 := Memref.whole main_arg0_scv
abbrev tabH : Memref sig .scVector .hbm S1024x128 .f32 := Memref.whole main_arg1_scv
abbrev outH : Memref sig .scVector .hbm S4x8192x128 .f32 := Memref.whole main_v0_scv
abbrev idsV : Memref sig .scVector .vmem S1040 .i32 := Memref.whole cc0_scratch0
abbrev cmV : Memref sig .scVector .vmem S1024 .i32 := Memref.whole cc0_scratch1
abbrev omV : Memref sig .scVector .vmem S1024 .i32 := Memref.whole cc0_scratch2
abbrev posV : Memref sig .scVector .vmem S1024 .i32 := Memref.whole cc0_scratch3
abbrev tmpV : Memref sig .scVector .vmem S16 .i32 := Memref.whole cc0_scratch4
abbrev shbV : Memref sig .scVector .vmem S2x8x16 .i32 := Memref.whole cc0_scratch5
abbrev rowsV : Memref sig .scVector .vmem S6x128x128 .f32 := Memref.whole cc0_scratch6
abbrev shmS : Memref sig .scVector .shared S2x8x16 .i32 := Memref.whole cc0_scratch7
abbrev shtS : Memref sig .scVector .shared S1041x128 .f32 := Memref.whole cc0_scratch8
abbrev nanV : Memref sig .scVector .vmem S128 .f32 := Memref.whole cc0_scratch9

/-- The programs the tile at coordinates `i` runs. -/
abbrev TP (F : FTy → Type) (i : grid0.Coords) (α : Type) : Type 1 :=
  Prog (TpuEff nD τ sig (Elt F) Λ₀ (.scVector ((i 0).castLE hcore0) ((i 1).castLE hsub0))) α

/-! ## The tile's coordinates as words -/

def halfB (i : grid0.Coords) : BitVec 32 := Scalar.shrsi (BitVec.ofNat 32 (i 1).val) 3#32
def chunkB (i : grid0.Coords) : BitVec 32 := Scalar.andi (BitVec.ofNat 32 (i 1).val) 7#32
def rowB (i : grid0.Coords) : BitVec 32 := Scalar.addi (Scalar.muli 2#32 (BitVec.ofNat 32 (i 0).val)) (halfB i)
def baseB (i : grid0.Coords) : BitVec 32 := Scalar.muli (chunkB i) 1024#32

/-- The lanes' numbers. -/
def lane : IVec S16 32 := iota .scVector S16 32 [0] iota_S16_d0_w32_scVector

/-! ## The vectors computed -/

/-- Which lanes hold a digit token. -/
def digitM (t : IVec S16 32) : IVec S16 1 :=
  ori (cmpi .eq t (broadcast S16 1#32)) (andi (cmpi .sge t (broadcast S16 17#32)) (cmpi .sle t (broadcast S16 26#32)))
/-- Which lanes hold an operand token. -/
def operandM (t : IVec S16 32) : IVec S16 1 :=
  ori (ori (digitM t) (cmpi .eq t (broadcast S16 12#32))) (cmpi .eq t (broadcast S16 30#32))
/-- Which lanes of a group's predecessors count as digits: at the row's first lane none does. -/
def prevM (i : grid0.Coords) (v : ℕ) (prev : IVec S16 32) : IVec S16 1 :=
  match v with
  | 0 => andi (digitM prev) (xori (andi (cmpi .eq lane (broadcast S16 0#32)) (broadcast S16 (Scalar.cmpi .eq (chunkB i) 0#32))) (constantI S16 1 1#1))
  | _ + 1 => digitM prev
/-- The indices along the row of group `v`'s lanes. -/
def gidx (i : grid0.Coords) (v : ℕ) : IVec S16 32 :=
  addi (broadcast S16 (Scalar.addi (baseB i) (BitVec.ofNat 32 (16 * v)))) lane
/-- The indices of the lanes that start a run of digits, `0` elsewhere. -/
def startV (i : grid0.Coords) (v : ℕ) (cur prev : IVec S16 32) : IVec S16 32 :=
  select (andi (digitM cur) (xori (prevM i v prev) (constantI S16 1 1#1))) (gidx i v) (broadcast S16 0#32)
/-- The running maximum along the lanes, signed. -/
def cumV (x : IVec S16 32) : IVec S16 32 :=
  xori (scan .max (xori x (broadcast S16 2147483648#32))) (broadcast S16 2147483648#32)
/-- The maximum of the lanes. -/
def lastV (x : IVec S16 32) : BitVec 32 := extractAt ![15] (cumV x) inpos_S16_p15
/-- The table's row each lane of group `v` asks for. -/
def posPay (i : grid0.Coords) (cin : BitVec 32) (v : ℕ) (cm om : IVec S16 32) : IVec S16 32 :=
  let p := muli (addi (subi (gidx i v) (maxsi cm (broadcast S16 cin))) (broadcast S16 1#32)) om
  let q := minsi p (broadcast S16 1023#32)
  select (cmpi .sgt p (broadcast S16 1023#32)) (broadcast S16 1040#32)
    (select (cmpi .eq q (broadcast S16 0#32)) (addi (broadcast S16 1024#32) lane) q)

/-! ## The steps -/

theorem inb16 {N v : ℕ} (h : 16 * v + 16 ≤ N) : ∀ a, (![16 * v] : Fin 1 → ℕ) a + S16.size a ≤ (⟨1, ![N]⟩ : Shape).size a := by
  intro a; fin_cases a; exact h
theorem inbPrev {v : ℕ} (h : v < 64) : ∀ a, (![15 + 16 * v] : Fin 1 → ℕ) a + S16.size a ≤ S1040.size a := by
  intro a; fin_cases a; show 15 + 16 * v + 16 ≤ 1040; omega
theorem inbCur {v : ℕ} (h : v < 64) : ∀ a, (![16 + 16 * v] : Fin 1 → ℕ) a + S16.size a ≤ S1040.size a := by
  intro a; fin_cases a; show 16 + 16 * v + 16 ≤ 1040; omega
theorem inbV {v : ℕ} (h : v < 64) : ∀ a, (![16 * v] : Fin 1 → ℕ) a + S16.size a ≤ S1024.size a := by
  intro a; fin_cases a; show 16 * v + 16 ≤ 1024; omega

/-- Group `v`'s rectangle of a chunk-long array. -/
abbrev rV {v : ℕ} (h : v < 64) : Rect S1024 := Rect.unit (s := S1024) ![16 * v] S16.size (inbV h)

/-- A load of group `v` of `m`. -/
def ldV (i : grid0.Coords) (m : Memref sig .scVector .vmem S1024 .i32) {v : ℕ} (h : v < 64) : TP F i (Vec F S16 .i32) :=
  Prog.lift (.load m (rV h).toLoadRect (View.loadsAt_vmem h_S16))
/-- A store into group `v` of `m`. -/
def stV (i : grid0.Coords) (m : Memref sig .scVector .vmem S1024 .i32) {v : ℕ} (h : v < 64) (w : IVec S16 32) : TP F i PUnit :=
  Prog.lift (.store m (rV h) w Finset.univ (View.stores_vmem_bits_univ h_S16 rfl) (.inl rfl))

/-- Group `v` of the first pass: the running maximum of the starts and the operand mask stored, the maximum so far returned. -/
def stepA (i : grid0.Coords) {v : ℕ} (h : v < 64) (carry : BitVec 32) : TP F i (BitVec 32) := do
  let cur : Vec F S16 .i32 ← Prog.lift (.load idsV (Rect.unit (s := S1040) ![16 + 16 * v] S16.size (inbCur h)).toLoadRect (View.loadsAt_vmem h_S16))
  let prev : Vec F S16 .i32 ← Prog.lift (.load idsV (Rect.unit (s := S1040) ![15 + 16 * v] S16.size (inbPrev h)).toLoadRect (View.loadsAt_vmem h_S16))
  let _ ← ldV i cmV h
  stV i cmV h (maxsi (cumV (startV i v cur prev)) (broadcast S16 carry))
  let _ ← ldV i omV h
  stV i omV h (select (operandM cur) (broadcast S16 1#32) (broadcast S16 0#32))
  pure (Scalar.maxsi carry (lastV (startV i v cur prev)))

/-- The groups `v, …, v + n - 1` of the first pass. -/
def chainA (i : grid0.Coords) : (n v : ℕ) → v + n ≤ 64 → BitVec 32 → TP F i (BitVec 32)
  | 0, _, _, c => pure c
  | n + 1, v, h, c => do
    let c' ← stepA i (v := v) (by omega) c
    chainA i n (v + 1) (by omega) c'

/-- Group `v` of the second pass: the rows asked for. -/
def stepP (i : grid0.Coords) (cin : BitVec 32) {v : ℕ} (h : v < 64) : TP F i PUnit := do
  let cm : Vec F S16 .i32 ← ldV i cmV h
  let om : Vec F S16 .i32 ← ldV i omV h
  let _ ← ldV i posV h
  stV i posV h (posPay i cin v cm om)

/-- The groups `v, …, v + n - 1` of the second pass. -/
def chainP (i : grid0.Coords) (cin : BitVec 32) : (n v : ℕ) → v + n ≤ 64 → TP F i PUnit
  | 0, _, _ => pure ⟨⟩
  | n + 1, v, h => do
    stepP i cin (v := v) (by omega)
    chainP i cin n (v + 1) (by omega)

/-- Where chunk `j`'s maximum lies in the table of maxima. -/
def offM (i : grid0.Coords) (j : ℕ) : Fin 3 → ℕ := ![(halfB i).toNat, j, 0]
theorem halfB_toNat (i : grid0.Coords) : (halfB i).toNat = (i 1).val / 8 := by
  revert i; unfold halfB; decide +kernel
theorem inbM (i : grid0.Coords) {j : ℕ} (h : j < 8) : ∀ a, offM i j a + S1x1x16.size a ≤ S2x8x16.size a := by
  intro a
  have h1 : (i 1).val < 16 := (i 1).isLt
  have h2 := halfB_toNat i
  fin_cases a
  · show (halfB i).toNat + 1 ≤ 2; omega
  · show j + 1 ≤ 8; omega
  · show 0 + 16 ≤ 16; omega

/-- The earlier chunks' maxima joined, chunk `j`. -/
def stepC (i : grid0.Coords) {j : ℕ} (h : j < 8) (cin : BitVec 32) : TP F i (BitVec 32) := do
  let x : Vec F S1x1x16 .i32 ← Prog.lift (.load shbV (Rect.unit (s := S2x8x16) (offM i j) S1x1x16.size (inbM i h)).toLoadRect (View.loadsAt_vmem h_S1x1x16))
  pure (Scalar.select (Scalar.cmpi .sgt (chunkB i) (BitVec.ofNat 32 j)) (Scalar.maxsi cin (lastV (shapeCast S16 x shapeCasts_S1x1x16_S16))) cin)

def chainC (i : grid0.Coords) : (n j : ℕ) → j + n ≤ 8 → BitVec 32 → TP F i (BitVec 32)
  | 0, _, _, c => pure c
  | n + 1, j, h, c => do
    let c' ← stepC i (j := j) (by omega) c
    chainC i n (j + 1) (by omega) c'

/-! ## The gathers and the stores -/

/-- The ten gathers' sizes, first rows, ring slots and semaphores. -/
def gsz : Fin 10 → ℕ := ![32, 32, 64, 128, 128, 128, 128, 128, 128, 128]
def gof : Fin 10 → ℕ := ![0, 32, 64, 128, 256, 384, 512, 640, 768, 896]
def gsl : Fin 10 → ℕ := ![0, 1, 2, 3, 4, 5, 0, 1, 2, 3]
def gsem : Fin 10 → DmaSem sig := ![12, 13, 14, 3, 4, 5, 0, 1, 2, 3]
def ssem : Fin 10 → DmaSem sig := ![15, 16, 17, 9, 10, 11, 6, 7, 8, 9]

abbrev SG (g : Fin 10) : Shape := ⟨2, ![gsz g, 128]⟩
abbrev SG1 (g : Fin 10) : Shape := ⟨3, ![1, gsz g, 128]⟩
abbrev SL (g : Fin 10) : Shape := ⟨1, ![gsz g]⟩

theorem inbSlot (g : Fin 10) : ∀ a, (![gsl g, 0, 0] : Fin 3 → ℕ) a + (SG1 g).size a ≤ S6x128x128.size a := by
  revert g; decide
theorem inbList (g : Fin 10) : ∀ a, (![gof g] : Fin 1 → ℕ) a + (SL g).size a ≤ S1024.size a := by
  revert g; decide
theorem sqG (g : Fin 10) : (SG1 g).Squeezes (SG g) := by revert g; decide
theorem gaG (g : Fin 10) : S1041x128.Gathers 0 (SG g) := by revert g; decide
theorem numG (g : Fin 10) : (SL g).numel = (SG g).size (gaG g).axis' := by revert g; decide
def offO (i : grid0.Coords) (g : Fin 10) : Fin 3 → ℕ := ![(rowB i).toNat, (Scalar.addi (baseB i) (BitVec.ofNat 32 (gof g))).toNat, 0]
theorem rowB_toNat (i : grid0.Coords) : (rowB i).toNat = 2 * (i 0).val + (i 1).val / 8 := by
  revert i; unfold rowB halfB; decide +kernel
theorem baseB_toNat (i : grid0.Coords) : (baseB i).toNat = 1024 * ((i 1).val % 8) := by
  revert i; unfold baseB chunkB; decide +kernel
theorem offO_eq (i : grid0.Coords) (g : Fin 10) : offO i g = ![2 * (i 0).val + (i 1).val / 8, 1024 * ((i 1).val % 8) + gof g, 0] := by
  have hb := baseB_toNat i
  have h8 : (i 1).val % 8 < 8 := Nat.mod_lt _ (by omega)
  have hg : gof g ≤ 896 := by revert g; decide
  have hsum : (Scalar.addi (baseB i) (BitVec.ofNat 32 (gof g))).toNat = 1024 * ((i 1).val % 8) + gof g := by
    show (baseB i + BitVec.ofNat 32 (gof g)).toNat = _
    rw [BitVec.toNat_add, hb, BitVec.toNat_ofNat]; omega
  unfold offO; rw [hsum, rowB_toNat]
theorem inbO (i : grid0.Coords) (g : Fin 10) : ∀ a, offO i g a + (SG1 g).size a ≤ S4x8192x128.size a := by
  have h0 : (i 0).val < 2 := (i 0).isLt
  have h1 : (i 1).val < 16 := (i 1).isLt
  have hg : gof g + gsz g ≤ 1024 := by revert g; decide
  rw [offO_eq]
  intro a; fin_cases a
  · show 2 * (i 0).val + (i 1).val / 8 + 1 ≤ 4; omega
  · show 1024 * ((i 1).val % 8) + gof g + gsz g ≤ 8192; omega
  · show 0 + 128 ≤ 128; omega

/-- Gather `g`'s slot of the ring, its list of rows, and its place in the result. -/
abbrev slotM (g : Fin 10) : Memref sig .scVector .vmem (SG g) .f32 :=
  (rowsV.slice (Rect.unit (s := S6x128x128) ![gsl g, 0, 0] (SG1 g).size (inbSlot g)) (fun _ => rfl)).squeeze (SG g) (sqG g)
abbrev listM (g : Fin 10) : Memref sig .scVector .vmem (SL g) .i32 :=
  posV.slice (Rect.unit (s := S1024) ![gof g] (SL g).size (inbList g)) (fun _ => rfl)
abbrev outM (i : grid0.Coords) (g : Fin 10) : Memref sig .scVector .hbm (SG g) .f32 :=
  (outH.slice (Rect.unit (s := S4x8192x128) (offO i g) (SG1 g).size (inbO i g)) (fun _ => rfl)).squeeze (SG g) (sqG g)
abbrev shtM : Memref sig .scVector .shared S1041x128 .f32 :=
  shtS.slice (Rect.unit (s := S1041x128) ![0, 0] S1041x128.size inb_S1041x128_S1041x128_0_0) (fun _ => rfl)

def gStart (i : grid0.Coords) (g : Fin 10) : TP F i PUnit :=
  SparseCore.enqueueIndirectGather rfl shtM (slotM g) (gaG g) (listM g) (numG g) (gsem g) (View.wordExact_bits rfl) rfl (Or.inr rfl)
def gWait (i : grid0.Coords) (g : Fin 10) : TP F i PUnit :=
  SparseCore.waitIndirectGather (gsem g) shtM (slotM g) (View.wordExact_bits rfl) ((View.wordExact_bits rfl).reshape _ _)
def sStart (i : grid0.Coords) (g : Fin 10) : TP F i PUnit :=
  Prog.lift (.enqueueDma (slotM g) (.here (outM i g)) (.dma (ssem g)) ((View.wordExact_bits rfl).reshape _ _) ((View.wordExact_bits rfl).reshape _ _) ⟨Or.inl rfl, trivial⟩)
def sWait (i : grid0.Coords) (g : Fin 10) : TP F i PUnit :=
  Prog.lift (.waitDma2 (ssem g) (slotM g) (outM i g) ((View.wordExact_bits rfl).reshape _ _) ((View.wordExact_bits rfl).reshape _ _))

/-- The second pass over the row, its gathers and its stores. -/
def ring (i : grid0.Coords) (cin : BitVec 32) : TP F i PUnit := do
  chainP i cin 2 0 (by decide)
  gStart i 0
  chainP i cin 2 2 (by decide)
  gStart i 1
  gWait i 0
  sStart i 0
  chainP i cin 4 4 (by decide)
  gStart i 2
  gWait i 1
  sStart i 1
  chainP i cin 8 8 (by decide)
  gStart i 3
  gWait i 2
  sStart i 2
  chainP i cin 8 16 (by decide)
  gStart i 4
  gWait i 3
  sStart i 3
  chainP i cin 8 24 (by decide)
  gStart i 5
  gWait i 4
  sStart i 4
  chainP i cin 8 32 (by decide)
  sWait i 0
  gStart i 6
  gWait i 5
  sStart i 5
  chainP i cin 8 40 (by decide)
  sWait i 1
  gStart i 7
  gWait i 6
  sStart i 6
  chainP i cin 8 48 (by decide)
  sWait i 2
  gStart i 8
  gWait i 7
  sStart i 7
  chainP i cin 8 56 (by decide)
  sWait i 3
  gStart i 9
  gWait i 8
  sStart i 8
  gWait i 9
  sStart i 9
  sWait i 4
  sWait i 5
  sWait i 6
  sWait i 7
  sWait i 8
  sWait i 9

/-! ## The transfers of the beginning and of the exchange -/

abbrev shtRowsM (i : grid0.Coords) : Memref sig .scVector .shared S64x128 .f32 :=
  shtS.slice (Rect.unit (s := S1041x128) (k0_off1 i) S64x128.size (k0_off1_inb i)) (fun _ => rfl)
abbrev tabRowsM (i : grid0.Coords) : Memref sig .scVector .hbm S64x128 .f32 :=
  tabH.slice (Rect.unit (s := S1024x128) (k0_off2 i) S64x128.size (k0_off2_inb i)) (fun _ => rfl)
abbrev shtZeroM (i : grid0.Coords) : Memref sig .scVector .shared S1x128 .f32 :=
  shtS.slice (Rect.unit (s := S1041x128) (k0_off3 i) S1x128.size (k0_off3_inb i)) (fun _ => rfl)
abbrev tabZeroM : Memref sig .scVector .hbm S1x128 .f32 :=
  tabH.slice (Rect.unit (s := S1024x128) ![0, 0] S1x128.size inb_S1024x128_S1x128_0_0) (fun _ => rfl)
abbrev shtNanM : Memref sig .scVector .shared S128 .f32 :=
  (shtS.slice (Rect.unit (s := S1041x128) ![1040, 0] S1x128.size inb_S1041x128_S1x128_1040_0) (fun _ => rfl)).squeeze S128 squeezes_S1x128_S128
abbrev idsPreM (i : grid0.Coords) : Memref sig .scVector .hbm S16 .i32 :=
  (idsH.slice (Rect.unit (s := S4x8192) (k0_off4 i) S1x16.size (k0_off4_inb i)) (fun _ => rfl)).squeeze S16 squeezes_S1x16_S16
abbrev idsCurM (i : grid0.Coords) : Memref sig .scVector .hbm S1024 .i32 :=
  (idsH.slice (Rect.unit (s := S4x8192) (k0_off5 i) S1x1024.size (k0_off5_inb i)) (fun _ => rfl)).squeeze S1024 squeezes_S1x1024_S1024
abbrev idsVPreM : Memref sig .scVector .vmem S16 .i32 :=
  idsV.slice (Rect.unit (s := S1040) ![0] S16.size inb_S1040_S16_0) (fun _ => rfl)
abbrev idsVCurM : Memref sig .scVector .vmem S1024 .i32 :=
  idsV.slice (Rect.unit (s := S1040) ![16] S1024.size inb_S1040_S1024_16) (fun _ => rfl)
abbrev shmRowM (i : grid0.Coords) : Memref sig .scVector .shared S16 .i32 :=
  (shmS.slice (Rect.unit (s := S2x8x16) (k0_off6 i) S1x1x16.size (k0_off6_inb i)) (fun _ => rfl)).squeeze S16 squeezes_S1x1x16_S16

theorem inbN {v : ℕ} (h : v < 8) : ∀ a, (![16 * v] : Fin 1 → ℕ) a + S16.size a ≤ S128.size a := by
  intro a; fin_cases a; show 16 * v + 16 ≤ 128; omega

/-- A sixteenth of the row of NaNs. -/
def stepN (i : grid0.Coords) {v : ℕ} (h : v < 8) : TP F i PUnit := do
  let _ : Vec F S16 .f32 ← Prog.lift (.load nanV (Rect.unit (s := S128) ![16 * v] S16.size (inbN h)).toLoadRect (View.loadsAt_vmem h_S16))
  Prog.lift (.store nanV (Rect.unit (s := S128) ![16 * v] S16.size (inbN h)) (broadcast S16 (Scalar.ofBits .f32 0x7FC00000#32 : F .f32)) Finset.univ (View.stores_vmem_bits_univ h_S16 rfl) (.inl rfl))
def chainN (i : grid0.Coords) : (n v : ℕ) → v + n ≤ 8 → TP F i PUnit
  | 0, _, _ => pure ⟨⟩
  | n + 1, v, h => do
    stepN i (v := v) (by omega)
    chainN i n (v + 1) (by omega)

/-- Tile 0's row of NaNs, written and sent to the last row of the shared table. -/
def nanRow (i : grid0.Coords) : TP F i PUnit := do
  chainN i 8 0 (by decide)
  Prog.lift (.enqueueDma nanV (.here shtNanM) (.dma (cc0_scoped0 : DmaSems sig S_).sem) (Memref.isWhole_whole _).wordExact ((View.wordExact_bits rfl).reshape _ _) ⟨Or.inl rfl, trivial⟩)
  Prog.lift (.waitDma2 (cc0_scoped0 : DmaSems sig S_).sem nanV shtNanM (Memref.isWhole_whole _).wordExact ((View.wordExact_bits rfl).reshape _ _))

/-- The beginning: the table's rows and the ids fetched. -/
def begin (i : grid0.Coords) : TP F i PUnit := do
  Prog.lift (.enqueueDma (tabRowsM i) (.here (shtRowsM i)) (.dma (cc0_scratch14 : DmaSems sig S_).sem) (View.wordExact_bits rfl) (View.wordExact_bits rfl) ⟨Or.inl rfl, trivial⟩)
  Prog.lift (.enqueueDma tabZeroM (.here (shtZeroM i)) (.dma (cc0_scratch17 : DmaSems sig S_).sem) (View.wordExact_bits rfl) (View.wordExact_bits rfl) ⟨Or.inl rfl, trivial⟩)
  if Scalar.cmpi .ne (Scalar.extui (Scalar.cmpi .eq (BitVec.ofNat 32 (i 1).val) 0#32) : BitVec 32) 0#32 = 1#1 then nanRow i else pure ⟨⟩
  Prog.lift (.enqueueDma (idsPreM i) (.here idsVPreM) (.dma (cc0_scratch15 : DmaSems sig S_).sem) ((View.wordExact_bits rfl).reshape _ _) (View.wordExact_bits rfl) ⟨Or.inl rfl, trivial⟩)
  Prog.lift (.enqueueDma (idsCurM i) (.here idsVCurM) (.dma (cc0_scratch16 : DmaSems sig S_).sem) ((View.wordExact_bits rfl).reshape _ _) (View.wordExact_bits rfl) ⟨Or.inl rfl, trivial⟩)
  Prog.lift (.waitDma2 (cc0_scratch15 : DmaSems sig S_).sem (idsPreM i) idsVPreM ((View.wordExact_bits rfl).reshape _ _) (View.wordExact_bits rfl))
  Prog.lift (.waitDma2 (cc0_scratch16 : DmaSems sig S_).sem (idsCurM i) idsVCurM ((View.wordExact_bits rfl).reshape _ _) (View.wordExact_bits rfl))

/-- The chunk's maximum published, and the table's rows waited for. -/
def publish (i : grid0.Coords) (carry : BitVec 32) : TP F i PUnit := do
  let _ : Vec F S16 .i32 ← Prog.lift (.load tmpV (Rect.unit (s := S16) ![0] S16.size inb_S16_S16_0).toLoadRect (View.loadsAt_vmem h_S16))
  Prog.lift (.store tmpV (Rect.unit (s := S16) ![0] S16.size inb_S16_S16_0) (broadcast S16 carry : IVec S16 32) Finset.univ (View.stores_vmem_bits_univ h_S16 rfl) (.inl rfl))
  Prog.lift (.enqueueDma tmpV (.here (shmRowM i)) (.dma (cc0_scoped1 : DmaSems sig S_).sem) (Memref.isWhole_whole _).wordExact ((View.wordExact_bits rfl).reshape _ _) ⟨Or.inl rfl, trivial⟩)
  Prog.lift (.waitDma2 (cc0_scoped1 : DmaSems sig S_).sem tmpV (shmRowM i) (Memref.isWhole_whole _).wordExact ((View.wordExact_bits rfl).reshape _ _))
  Prog.lift (.waitDma2 (cc0_scratch14 : DmaSems sig S_).sem (tabRowsM i) (shtRowsM i) (View.wordExact_bits rfl) (View.wordExact_bits rfl))
  Prog.lift (.waitDma2 (cc0_scratch17 : DmaSems sig S_).sem tabZeroM (shtZeroM i) (View.wordExact_bits rfl) (View.wordExact_bits rfl))

/-- The chunks' maxima fetched. -/
def collect (i : grid0.Coords) : TP F i PUnit := do
  Prog.lift (.enqueueDma shmS (.here shbV) (.dma (cc0_scoped2 : DmaSems sig S_).sem) (Memref.isWhole_whole _).wordExact (Memref.isWhole_whole _).wordExact ⟨Or.inl rfl, trivial⟩)
  Prog.lift (.waitDma2 (cc0_scoped2 : DmaSems sig S_).sem shmS shbV (Memref.isWhole_whole _).wordExact (Memref.isWhole_whole _).wordExact)

/-- The kernel's body on the tile at `i`, its repeated groups as loops. -/
def body (i : grid0.Coords) : TP F i PUnit := do
  begin i
  let carry ← chainA i 64 0 (by decide) 0#32
  publish i carry
  SparseCore.subcoreBarrier sc_bar0 (grid0.bound 1) hsub0
  collect i
  let cin ← chainC i 7 0 (by decide) 0#32
  ring i cin

/-- The kernel's body as printed, on its arrays. -/
abbrev printed (i : grid0.Coords) : TP F i PUnit :=
  cc0__sc_body i idsH (Memref.isWhole_whole _) tabH (Memref.isWhole_whole _) outH (Memref.isWhole_whole _)
    idsV (Memref.isWhole_whole _) cmV (Memref.isWhole_whole _) omV (Memref.isWhole_whole _) posV (Memref.isWhole_whole _)
    tmpV (Memref.isWhole_whole _) shbV (Memref.isWhole_whole _) rowsV (Memref.isWhole_whole _) shmS (Memref.isWhole_whole _)
    shtS (Memref.isWhole_whole _) nanV (Memref.isWhole_whole _)
    cc0_scratch10 cc0_scratch11 cc0_scratch12 cc0_scratch13 cc0_scratch14 cc0_scratch15 cc0_scratch16 cc0_scratch17
    cc0_scoped0 cc0_scoped1 cc0_scoped2

end Cert.Proof.Embed

end
-- ==== Proof.Values.lean ====
module

public import proofs.«01_k».proof.Proof.Body

@[expose] public section

noncomputable section

namespace Cert.Proof.Embed

open Cert.KernelIdeal Cert.KernelIdeal.Gen
open Idealize.ShloMosaic Idealize.SL.Sem

variable {F : FTy → Type} [FloatOps F]

/-! ## The contents of the tile's arrays, as functions of the ids and the table -/

/-- The element of a two-axis array at given numbers. -/
def at2 {α : Type} {a b : ℕ} [NeZero a] [NeZero b] (x : (⟨2, ![a, b]⟩ : Shape).Idx → α) (p q : ℕ) : α :=
  x (Fin.cons (Fin.ofNat a p) (Fin.cons (Fin.ofNat b q) fun k => k.elim0))

/-- The lane of a given number. -/
def ln (k : ℕ) : S16.Idx := Fin.cons (Fin.ofNat 16 k) fun a => a.elim0

/-- A tile's row of the ids and the first index of its chunk. -/
def rowN (i : grid0.Coords) : ℕ := 2 * (i 0).val + (i 1).val / 8
def baseN (i : grid0.Coords) : ℕ := 1024 * ((i 1).val % 8)

/-- The tile of core `c` that works on half `h`, chunk `j`. -/
def tileAt (c h j : ℕ) : grid0.Coords := Fin.cons (Fin.ofNat 2 c) (Fin.cons (Fin.ofNat 16 (8 * h + j)) fun a => a.elim0)

section Ids

variable (ids : S4x8192.Idx → BitVec 32) (i : grid0.Coords)

/-- The tile's ids: the sixteen before its chunk, and the chunk's. -/
def idsN (n : ℕ) : BitVec 32 := if n < 16 then at2 ids (rowN i) (baseN i - 16 + n) else at2 ids (rowN i) (baseN i + (n - 16))
def curF (v : ℕ) : IVec S16 32 := fun l => idsN ids i (16 + 16 * v + (l 0).val)
def prevF (v : ℕ) : IVec S16 32 := fun l => idsN ids i (15 + 16 * v + (l 0).val)
/-- Group `v`'s starts. -/
def startF (v : ℕ) : IVec S16 32 := startV i v (curF ids i v) (prevF ids i v)
/-- The chunk's last start before group `v`. -/
def carryF : ℕ → BitVec 32
  | 0 => 0#32
  | v + 1 => Scalar.maxsi (carryF v) (lastV (startF ids i v))
/-- The running maximum of the starts, at the chunk's index `n`. -/
def cmN (n : ℕ) : BitVec 32 := (maxsi (cumV (startF ids i (n / 16))) (broadcast S16 (carryF ids i (n / 16))) : IVec S16 32) (ln n)
/-- The operand mask, at the chunk's index `n`. -/
def omN (n : ℕ) : BitVec 32 :=
  (select (operandM (curF ids i (n / 16))) (broadcast S16 1#32) (broadcast S16 0#32) : IVec S16 32) (ln n)
/-- The maximum of chunk `j` of half `h` of core `c`. -/
def maxN (c h j : ℕ) : BitVec 32 := carryF ids (tileAt c h j) 64
/-- The maximum of the chunks before the tile's, of the first `j`. -/
def cinF : ℕ → BitVec 32
  | 0 => 0#32
  | j + 1 => Scalar.select (Scalar.cmpi .sgt (chunkB i) (BitVec.ofNat 32 j))
      (Scalar.maxsi (cinF j) (lastV (fun _ => maxN ids (i 0).val ((i 1).val / 8) j))) (cinF j)
/-- The row asked for at the chunk's index `n`. -/
def posN (n : ℕ) : BitVec 32 :=
  posPay i (cinF ids i 7) (n / 16) (fun l => cmN ids i (16 * (n / 16) + (l 0).val)) (fun l => omN ids i (16 * (n / 16) + (l 0).val)) (ln n)

end Ids

/-- The shared table: the table's rows, sixteen copies of its row 0, a row of NaNs. -/
def shtN (tab : S1024x128.Idx → F .f32) (r l : ℕ) : F .f32 :=
  if r < 1024 then at2 tab r l else if r < 1040 then at2 tab 0 l else Scalar.ofBits .f32 0x7FC00000#32

/-- The kernel's result: each row of the shared table asked for. -/
def outF (ids : S4x8192.Idx → BitVec 32) (tab : S1024x128.Idx → F .f32) (x : S4x8192x128.Idx) : F .f32 :=
  shtN tab (posN ids (tileAt ((x 0).val / 2) ((x 0).val % 2) ((x 1).val / 1024)) ((x 1).val % 1024)).toNat (x 2).val

/-! ## What each array holds -/

def idsC (ids : S4x8192.Idx → BitVec 32) (i : grid0.Coords) : S1040.Idx → BitVec 32 := fun x => idsN ids i (x 0).val
def cmC (ids : S4x8192.Idx → BitVec 32) (i : grid0.Coords) : S1024.Idx → BitVec 32 := fun x => cmN ids i (x 0).val
def omC (ids : S4x8192.Idx → BitVec 32) (i : grid0.Coords) : S1024.Idx → BitVec 32 := fun x => omN ids i (x 0).val
def posC (ids : S4x8192.Idx → BitVec 32) (i : grid0.Coords) : S1024.Idx → BitVec 32 := fun x => posN ids i (x 0).val
def shmC (ids : S4x8192.Idx → BitVec 32) (c : ℕ) : S2x8x16.Idx → BitVec 32 := fun x => maxN ids c (x 0).val (x 1).val
def shtC (tab : S1024x128.Idx → F .f32) : S1041x128.Idx → F .f32 := fun x => shtN tab (x 0).val (x 1).val

/-- An array of which the first `n` groups of sixteen are `G`'s, the rest `f`'s. -/
def pre (n : ℕ) (G f : S1024.Idx → BitVec 32) : S1024.Idx → BitVec 32 := fun x => if (x 0).val < 16 * n then G x else f x

end Cert.Proof.Embed

end
-- ==== Proof.Kit.lean ====
module

public import proofs.«01_k».proof.Defs
public import proofs.«01_k».proof.Proof.Values
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells', the transfers' counters -/

abbrev UH : Type := URounds (GSem nD τ sig) ℕ
abbrev UB : Type := URounds (GSem nD τ sig) ℕ
abbrev UU : Type := UH × (UB × Counters)

/-- The model the assertions are over. -/
abbrev Mod (F : FTy → Type) := MT nD τ sig (HIx 1) (Elt F) ℕ UU ℕ

abbrev EH : Emb UH (Mod F) := embL
/-- The barrier cells' rounds library: the left half of the right factor. -/
def EB : Emb UB (Mod F) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB (Mod F)).LandsIn (upEmb : UEmb _ (Mod F)) := by unfold EB; infer_instance

/-! ## The tile's thread -/

abbrev cV (i : grid0.Coords) : Fin τ.nSC := (i 0).castLE hcore0
abbrev jV (i : grid0.Coords) : Fin τ.nSub := (i 1).castLE hsub0
/-- The thread of the tile at `i`. -/
abbrev vt (d : Dev nD) (i : grid0.Coords) : Thread nD τ := V d (cV i) (jV i)

/-- The weakest precondition of a program of the tile at `i`. -/
abbrev twp [FloatOps F] (d : Dev nD) (i : grid0.Coords) {α : Type} (p : TP F i α) (Q : α → sProp (Mod F)) : sProp (Mod F) :=
  wp frame (wpE (defs₀ (F := F)) 𝒱₀ (vt d i) none) Set.univ p Q

variable [FloatOps F]

/-- A program's first part run under its own assertion, the rest from what it leaves. -/
theorem twp_seq {d : Dev nD} {i : grid0.Coords} {α β : Type} {P : sProp (Mod F)} {p : TP F i α} {Q : α → sProp (Mod F)} {k : α → TP F i β}
    {R : β → sProp (Mod F)} (h : P ⊢ twp d i p Q) : P ⊢ iprop((∀ a, Q a -∗ twp d i (k a) R) -∗ twp d i (p >>= k) R) := by
  unfold twp at *
  rw [wp_bind]
  iintro HP HR
  ihave Hp := h $$ HP
  iapply (wp_wand_r (frame) (wpE (defs₀ (F := F)) 𝒱₀ (vt d i) none) Set.univ)
  isplitl [Hp]; · iexact Hp
  iexact HR

end Cert.Proof.Embed

end
-- ==== Proof.Steps.lean ====
module

public import proofs.«01_k».proof.Proof.Kit

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (d : Dev nD) (i : grid0.Coords) (ids : S4x8192.Idx → BitVec 32)

/-! ## Contents -/

/-- Group `v` written into an array that holds `G` below it: it holds `G` up to the next. -/
theorem read_writes_pre {κ : Kind} {sp : Space} (w : View sig κ sp S1024 .i32) (f : w.ty.Contents (Elt F)) (G g : S1024.Idx → BitVec 32)
    {v : ℕ} (h : v < 64) (x : S16.Idx → BitVec 32) (hf : w.read (Elt F) f = pre v G g)
    (hx : ∀ l : S16.Idx, ∀ y : S1024.Idx, (y 0).val = 16 * v + (l 0).val → x l = G y) :
    w.read (Elt F) (w.writes (Elt F) f [⟨rV h, x⟩]) = pre (v + 1) G g := by
  funext y
  by_cases hy : 16 * v ≤ (y 0).val ∧ (y 0).val < 16 * v + 16
  · have hl : (ln ((y 0).val - 16 * v) 0).val = (y 0).val - 16 * v := Nat.mod_eq_of_lt (by omega)
    refine (View.read_writes_cons_hit_of_coords w f (rV h) x [] (ln ((y 0).val - 16 * v)) y (fun a => ?_)).trans ?_
    · obtain rfl : a = 0 := Subsingleton.elim _ _
      show (y 0).val = 16 * v + 1 * (ln ((y 0).val - 16 * v) 0).val
      omega
    · rw [hx _ y (by omega)]
      unfold pre; rw [if_pos (by omega)]
  · refine (View.read_writes_cons_miss_of_axis w f ⟨rV h, x⟩ [] y 0 (16 * v) 16 rfl rfl rfl (by omega)).trans ?_
    rw [View.writes_nil, hf]
    unfold pre
    by_cases h1 : (y 0).val < 16 * v
    · rw [if_pos h1, if_pos (by omega)]
    · rw [if_neg h1, if_neg (by omega)]

theorem pre_zero (G g : S1024.Idx → BitVec 32) : pre 0 G g = g := funext fun x => if_neg (by omega)
theorem pre_all (G g : S1024.Idx → BitVec 32) : pre 64 G g = G := funext fun x => if_pos (show (x 0).val < 1024 from (x 0).isLt)

theorem read_cur {v : ℕ} (h : v < 64) :
    View.readAt (Elt F) idsV.view (Rect.unit (s := S1040) ![16 + 16 * v] S16.size (inbCur h)).toLoadRect (idsC ids i) = curF ids i v := by
  funext l
  show idsN ids i (16 + 16 * v + 1 * (l 0).val) = idsN ids i (16 + 16 * v + (l 0).val)
  rw [Nat.one_mul]
theorem read_prev {v : ℕ} (h : v < 64) :
    View.readAt (Elt F) idsV.view (Rect.unit (s := S1040) ![15 + 16 * v] S16.size (inbPrev h)).toLoadRect (idsC ids i) = prevF ids i v := by
  funext l
  show idsN ids i (15 + 16 * v + 1 * (l 0).val) = idsN ids i (15 + 16 * v + (l 0).val)
  rw [Nat.one_mul]

theorem ln_self (l : S16.Idx) (n v : ℕ) (h : n = 16 * v + (l 0).val) : ln n = l ∧ n / 16 = v := by
  have hl : (l 0).val < 16 := (l 0).isLt
  refine ⟨funext fun a => ?_, by omega⟩
  obtain rfl : a = 0 := Subsingleton.elim _ _
  refine Fin.ext ?_
  show n % 16 = (l 0).val
  omega

/-! ## The first pass -/

abbrev idsP (f : S1040.Idx → BitVec 32) : sProp (Mod F) := idsV.view.loc (vt d i) ↦{fullShare} f
abbrev cmP (f : S1024.Idx → BitVec 32) : sProp (Mod F) := cmV.view.loc (vt d i) ↦{fullShare} f
abbrev omP (f : S1024.Idx → BitVec 32) : sProp (Mod F) := omV.view.loc (vt d i) ↦{fullShare} f

theorem stepA_wp {v : ℕ} (h : v < 64) (f g : S1024.Idx → BitVec 32) :
    iprop(idsP d i (idsC ids i) ∗ cmP d i (pre v (cmC ids i) f) ∗ omP d i (pre v (omC ids i) g))
      ⊢ twp (F := F) d i (stepA i h (carryF ids i v)) (fun c => iprop(⌜c = carryF ids i (v + 1)⌝
          ∗ idsP d i (idsC ids i) ∗ cmP d i (pre (v + 1) (cmC ids i) f) ∗ omP d i (pre (v + 1) (omC ids i) g))) := by
  unfold stepA twp ldV stV
  iintro ⟨Hi, Hc, Ho⟩
  sl_exec
  rw [read_cur (F := F) i ids h, read_prev (F := F) i ids h]
  have e1 := read_writes_pre (F := F) cmV.view (pre v (cmC ids i) f) (cmC ids i) f h
    (maxsi (cumV (startV i v (curF ids i v) (prevF ids i v))) (broadcast S16 (carryF ids i v))) rfl (fun l y hy => by
      obtain ⟨e, e'⟩ := ln_self l _ v hy
      show _ = cmN ids i (y 0).val
      unfold cmN; rw [e, e']; rfl)
  have e2 := read_writes_pre (F := F) omV.view (pre v (omC ids i) g) (omC ids i) g h
    (select (operandM (curF ids i v)) (broadcast S16 1#32) (broadcast S16 0#32)) rfl (fun l y hy => by
      obtain ⟨e, e'⟩ := ln_self l _ v hy
      show _ = omN ids i (y 0).val
      unfold omN; rw [e, e'])
  rw [View.read_whole] at e1 e2
  rw [e1, e2]
  sl_step
  isplitr; · ipureintro; rfl
  isplitl [Hi]; · iexact Hi
  isplitl [Hc]; · iexact Hc
  iexact Ho

/-- The first pass's groups from `v` on, one after the other. -/
theorem chainA_wp (f g : S1024.Idx → BitVec 32) : ∀ (n v : ℕ) (h : v + n ≤ 64),
    iprop(idsP d i (idsC ids i) ∗ cmP d i (pre v (cmC ids i) f) ∗ omP d i (pre v (omC ids i) g))
      ⊢ twp (F := F) d i (chainA i n v h (carryF ids i v)) (fun c => iprop(⌜c = carryF ids i (v + n)⌝
          ∗ idsP d i (idsC ids i) ∗ cmP d i (pre (v + n) (cmC ids i) f) ∗ omP d i (pre (v + n) (omC ids i) g)))
  | 0, v, h => by
    unfold chainA twp
    iintro ⟨Hi, Hc, Ho⟩
    sl_step
    isplitr; · ipureintro; rfl
    isplitl [Hi]; · iexact Hi
    isplitl [Hc]; · iexact Hc
    iexact Ho
  | n + 1, v, h => by
    unfold chainA
    iintro H
    iapply (twp_seq (stepA_wp (F := F) d i ids (show v < 64 by omega) f g)) $$ [H]
    · iexact H
    iintro %c ⟨%hc, H⟩
    subst hc
    have := chainA_wp f g n (v + 1) (by omega)
    rw [show v + (n + 1) = v + 1 + n by omega]
    iapply this
    iexact H

/-! ## The second pass -/

/-- The indices of a stretch of a chunk-long array. -/
def win (a b : ℕ) : Finset S1024.Idx := Finset.univ.filter fun x => a ≤ (x 0).val ∧ (x 0).val < b
theorem mem_win {a b : ℕ} {x : S1024.Idx} : x ∈ win a b ↔ a ≤ (x 0).val ∧ (x 0).val < b := by
  unfold win; rw [Finset.mem_filter]; exact and_iff_right (Finset.mem_univ _)

theorem rV_sub {v a b : ℕ} (h : v < 64) (ha : a ≤ 16 * v) (hb : 16 * v + 16 ≤ b) : (rV h).set ⊆ win a b := by
  intro x hx
  have := Rect.mem_set_unit.mp hx 0
  have h1 : 16 * v ≤ (x 0).val := this.1
  have h2 : (x 0).val < 16 * v + 16 := this.2
  exact mem_win.mpr ⟨by omega, by omega⟩

abbrev posP (S : Finset S1024.Idx) (f : S1024.Idx → BitVec 32) : sProp (Mod F) := posV.view.loc (vt d i) ↦[S]{fullShare} f

theorem read_group {v : ℕ} (h : v < 64) (m : Memref sig .scVector .vmem S1024 .i32) (f : m.view.ty.Contents (Elt F)) (G : ℕ → BitVec 32)
    (hf : m.view.read (Elt F) f = fun x => G (x 0).val) :
    View.readAt (Elt F) m.view (rV h).toLoadRect f = (fun l => G (16 * v + (l 0).val) : IVec S16 32) := by
  funext l
  show m.view.read (Elt F) f _ = _
  rw [hf]
  show G (16 * v + 1 * (l 0).val) = G (16 * v + (l 0).val)
  rw [Nat.one_mul]

theorem stepP_wp {v a b : ℕ} (h : v < 64) (ha : a ≤ 16 * v) (hb : 16 * v + 16 ≤ b) (f : S1024.Idx → BitVec 32) :
    iprop(cmP d i (cmC ids i) ∗ omP d i (omC ids i) ∗ posP d i (win a b) (pre v (posC ids i) f))
      ⊢ twp (F := F) d i (stepP i (cinF ids i 7) h) (fun _ => iprop(cmP d i (cmC ids i) ∗ omP d i (omC ids i)
          ∗ posP d i (win a b) (pre (v + 1) (posC ids i) f))) := by
  unfold stepP twp ldV stV
  iintro ⟨Hc, Ho, Hp⟩
  sl_exec
  have hS : posV.view.setOn (rV h).toLoadRect.set ⊆ win a b := by
    intro x hx
    obtain ⟨y, hy, e⟩ := Finset.mem_map.mp hx
    exact rV_sub h ha hb (e ▸ hy)
  iapply (wp_load 𝒱₀ (vt d i) none Set.univ hS) $$ Hp
  iintro Hp
  have hS' : (posV.access (rV h)).setOn Finset.univ ⊆ win a b := by
    intro x hx
    exact rV_sub h ha hb ((View.set_slice_whole cc0_scratch3 (rV h)) ▸ hx)
  iapply (wp_store 𝒱₀ (vt d i) none Set.univ hS') $$ Hp
  iintro Hp
  have e := read_writes_pre (F := F) posV.view (pre v (posC ids i) f) (posC ids i) f h
    (posPay i (cinF ids i 7) v (fun l => cmN ids i (16 * v + (l 0).val)) (fun l => omN ids i (16 * v + (l 0).val))) rfl (fun l y hy => by
      obtain ⟨e, e'⟩ := ln_self l _ v hy
      show _ = posN ids i (y 0).val
      unfold posN; rw [e, e'])
  rw [View.read_whole, View.writes_singleton] at e
  rw [read_group (F := F) h cmV (cmC ids i) (cmN ids i) rfl, read_group (F := F) h omV (omC ids i) (omN ids i) rfl]
  have e' : (posV.access (rV h)).write (Elt F) (pre v (posC ids i) f) (posPay i (cinF ids i 7) v (fun l => cmN ids i (16 * v + (l 0).val)) (fun l => omN ids i (16 * v + (l 0).val))) Finset.univ
    = pre (v + 1) (posC ids i) f := e
  rw [e']
  sl_step
  isplitl [Hc]; · iexact Hc
  isplitl [Ho]; · iexact Ho
  iexact Hp

theorem chainP_wp {a b : ℕ} (f : S1024.Idx → BitVec 32) : ∀ (n v : ℕ) (h : v + n ≤ 64), a ≤ 16 * v → 16 * (v + n) ≤ b →
    iprop(cmP d i (cmC ids i) ∗ omP d i (omC ids i) ∗ posP d i (win a b) (pre v (posC ids i) f))
      ⊢ twp (F := F) d i (chainP i (cinF ids i 7) n v h) (fun _ => iprop(cmP d i (cmC ids i) ∗ omP d i (omC ids i)
          ∗ posP d i (win a b) (pre (v + n) (posC ids i) f)))
  | 0, v, h, _, _ => by
    unfold chainP twp
    iintro ⟨Hi, Hc, Ho⟩
    sl_step
    isplitl [Hi]; · iexact Hi
    isplitl [Hc]; · iexact Hc
    iexact Ho
  | n + 1, v, h, ha, hb => by
    unfold chainP
    iintro H
    iapply (twp_seq (stepP_wp (F := F) d i ids (a := a) (b := b) (show v < 64 by omega) ha (by omega) f)) $$ [H]
    · iexact H
    iintro %c H
    have := chainP_wp (a := a) (b := b) f n (v + 1) (by omega) (by omega) (by omega)
    rw [show v + (n + 1) = v + 1 + n by omega]
    iapply this
    iexact H

/-- One gather's list of rows, from any contents. -/
theorem list_wp (n v : ℕ) (h : v + n ≤ 64) :
    iprop(cmP d i (cmC ids i) ∗ omP d i (omC ids i) ∗ ∃ f, posP d i (win (16 * v) (16 * (v + n))) f)
      ⊢ twp (F := F) d i (chainP i (cinF ids i 7) n v h) (fun _ => iprop((cmP d i (cmC ids i) ∗ omP d i (omC ids i))
          ∗ posP d i (win (16 * v) (16 * (v + n))) (posC ids i))) := by
  have e0 : ∀ f, (posP (F := F) d i (win (16 * v) (16 * (v + n))) f) = posP d i (win (16 * v) (16 * (v + n))) (pre v (posC ids i) f) := fun f =>
    pointsTo_congr fun x hx => (if_neg (by have := mem_win.mp hx; omega)).symm
  have e1 : ∀ f, (posP (F := F) d i (win (16 * v) (16 * (v + n))) (posC ids i)) = posP d i (win (16 * v) (16 * (v + n))) (pre (v + n) (posC ids i) f) := fun f =>
    pointsTo_congr fun x hx => (if_pos (by have := mem_win.mp hx; omega)).symm
  iintro ⟨Hc, Ho, %f, Hp⟩
  ihave Hp := (Entails.of_eq (e0 f)) $$ Hp
  iapply (wp_wand_r (frame) (wpE (defs₀ (F := F)) 𝒱₀ (vt d i) none) Set.univ)
  isplitl [Hc Ho Hp]
  · iapply (chainP_wp (F := F) d i ids f n v h le_rfl le_rfl)
    isplitl [Hc]; · iexact Hc
    isplitl [Ho]; · iexact Ho
    iexact Hp
  iintro %_ ⟨Hc, Ho, Hp⟩
  isplitl [Hc Ho]
  · isplitl [Hc]; · iexact Hc
    iexact Ho
  iapply (Entails.of_eq (e1 f).symm); iexact Hp

/-! ## The earlier chunks' maxima -/

abbrev shbP (f : S2x8x16.Idx → BitVec 32) : sProp (Mod F) := shbV.view.loc (vt d i) ↦{fullShare} f

theorem read_max {j : ℕ} (h : j < 8) :
    (shapeCast S16 (View.readAt (Elt F) shbV.view (Rect.unit (s := S2x8x16) (offM i j) S1x1x16.size (inbM i h)).toLoadRect (shmC ids (i 0).val)) shapeCasts_S1x1x16_S16 : IVec S16 32)
      = fun _ => maxN ids (i 0).val ((i 1).val / 8) j := by
  funext l
  unfold shapeCast
  generalize Shape.reshapeEquiv shapeCasts_S1x1x16_S16 l = y
  have h0 : (y 0).val = 0 := Nat.lt_one_iff.mp (y 0).isLt
  have h1 : (y 1).val = 0 := Nat.lt_one_iff.mp (y 1).isLt
  rw [View.readAt_apply, View.read_whole]
  unfold shmC
  have e0 : ((Rect.unit (s := S2x8x16) (offM i j) S1x1x16.size (inbM i h)).toLoadRect.idx y 0).val = (halfB i).toNat + 1 * (y 0).val := rfl
  have e1 : ((Rect.unit (s := S2x8x16) (offM i j) S1x1x16.size (inbM i h)).toLoadRect.idx y 1).val = j + 1 * (y 1).val := rfl
  rw [e0, e1, h0, h1, halfB_toNat]
  simp only [Nat.mul_zero, Nat.add_zero]

theorem stepC_wp {j : ℕ} (h : j < 8) :
    shbP d i (shmC ids (i 0).val) ⊢ twp (F := F) d i (stepC i h (cinF ids i j)) (fun c => iprop(⌜c = cinF ids i (j + 1)⌝ ∗ shbP d i (shmC ids (i 0).val))) := by
  unfold stepC twp
  iintro H
  sl_exec
  rw [read_max (F := F) i ids h]
  sl_step
  isplitr; · ipureintro; rfl
  iexact H

theorem chainC_wp : ∀ (n j : ℕ) (h : j + n ≤ 8),
    shbP d i (shmC ids (i 0).val) ⊢ twp (F := F) d i (chainC i n j h (cinF ids i j)) (fun c => iprop(⌜c = cinF ids i (j + n)⌝ ∗ shbP d i (shmC ids (i 0).val)))
  | 0, j, h => by
    unfold chainC twp
    iintro H
    sl_step
    isplitr; · ipureintro; rfl
    iexact H
  | n + 1, j, h => by
    unfold chainC
    iintro H
    iapply (twp_seq (stepC_wp (F := F) d i ids (show j < 8 by omega))) $$ [H]
    · iexact H
    iintro %c ⟨%hc, H⟩
    subst hc
    have := chainC_wp n (j + 1) (by omega)
    rw [show j + (n + 1) = j + 1 + n by omega]
    iapply this
    iexact H

end Cert.Proof.Embed

end
-- ==== Proof.Ring.lean ====
module

public import proofs.«01_k».proof.Proof.Steps

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (d : Dev nD) (i : grid0.Coords) (ids : S4x8192.Idx → BitVec 32) (tab : S1024x128.Idx → F .f32)

/-! ## What a tile owes while it waits -/

/-- The tile's debt, its waits so far those of `W`, its own and the call's. -/
def OW (O : CellTallies nD τ sig (HIx 1)) (W : Waits sig (HIx 1)) : sProp (Mod F) :=
  iprop(∃ W', ⌜∀ p ∈ W', p ∈ W ∨ p.2 = none ∨ p.2 = some (0 : Fin 1)⌝ ∗ owes (vt d i) O W')

/-- A wait of the tile's own recorded. -/
theorem OW_insert (O : CellTallies nD τ sig (HIx 1)) (W W' : Waits sig (HIx 1)) (h : ∀ p ∈ W', p ∈ W ∨ p.2 = none ∨ p.2 = some (0 : Fin 1)) (sm : SemLoc sig) :
    (owes (vt d i) O (insert (sm, (default : HIx 1)) W') : sProp (Mod F)) ⊢ OW d i O W := by
  unfold OW
  iintro H
  iexists _
  isplitr
  swap; · iexact H
  ipureintro
  intro p hp
  rcases Finset.mem_insert.mp hp with rfl | hp
  · exact .inr (.inl rfl)
  · exact h p hp

/-- A wait for a transfer of the tile's own. -/
theorem wait_wp (O : CellTallies nD τ sig (HIx 1)) (W : Waits sig (HIx 1)) {sp sp' : Space} {s s' : Shape} {e e' : EltTy} {sem : DmaSem sig}
    {src : Memref sig .scVector sp' s' e'} {dst : Memref sig .scVector sp s e} {hsrc : src.view.WordExact} {hdst : dst.view.WordExact}
    {N : ℕ} (hN : dst.view.dmaCredit = N) (D : sProp (Mod F)) :
    iprop(Transfers.MayWaits (vt d i) (default : HIx 1) O ∗ Transfers.Flight countersEmb (vt d i) (.dma sem) (default : HIx 1) N D ∗ OW d i O W)
      ⊢ twp (F := F) d i (Prog.lift (.waitDma2 sem src dst hsrc hdst)) (fun _ => iprop(D ∗ semVal (vt d i, SemLoc.dma sem) 0 ∗ OW d i O W)) := by
  unfold twp
  iintro ⟨Hmw, Hf, HO⟩
  unfold OW
  icases HO with ⟨%W', %hW, HO⟩
  iapply (Transfers.wp_waitLocalO countersEmb 𝒱₀ (vt d i) none (default : HIx 1) hN) $$ [Hf HO Hmw]
  · isplitl [Hf]; · iexact Hf
    isplitl [HO]; · iexact HO
    iapply (Transfers.MayWaits.elim (SemLoc.dma sem)) $$ Hmw
  iintro ⟨HD, Hs, HO⟩
  sl_step
  isplitl [HD]; · iexact HD
  isplitl [Hs]; · iexact Hs
  have h := OW_insert (F := F) d i O W W' hW (SemLoc.dma sem)
  unfold OW at h
  iapply h; iexact HO

/-- Elements written whole through a view are held at any contents that read so. -/
theorem pts_written {c : Thread nD τ} {sp : Space} {s : Shape} {e : EltTy} (v : View sig c.2.kind sp s e) (q : PosShare TreeShare)
    (f g : Buf (Elt F) (v.loc c)) (w : s.Idx → Elt F e) (h : v.read (Elt F) g = w) :
    (v.loc c ↦[v.set]{q} v.write (Elt F) f w Finset.univ : sProp (Mod F)) = v.loc c ↦[v.set]{q} g := by
  subst h
  rw [View.write_read_eq_piecewise]
  exact pointsTo_congr fun x hx => Finset.piecewise_eq_of_mem _ _ _ (by rwa [View.setOn_univ])

/-! ## The gathers -/

/-- Every row asked for is a row of the shared table. -/
abbrev PosOK : Prop := ∀ n, n < 1024 → (posN ids i n).toNat < 1041

abbrev shtQ (q : PosShare TreeShare) : sProp (Mod F) := shtS.view.loc (vt d i) ↦{q} (shtC tab)
abbrev slotP (g : Fin 10) (f : S6x128x128.Idx → F .f32) : sProp (Mod F) := (slotM g).view.loc (vt d i) ↦[(slotM g).view.set]{fullShare} f
abbrev outP (g : Fin 10) (f : S4x8192x128.Idx → F .f32) : sProp (Mod F) := (outM i g).view.loc (vt d i) ↦[(outM i g).view.set]{fullShare} f
abbrev dsem (s : DmaSem sig) : sProp (Mod F) := semVal (vt d i, SemLoc.dma s) 0

/-- The rows gather `g` fetches. -/
def rowsG (g : Fin 10) : (SG g).Idx → F .f32 := fun y => shtN tab (posN ids i (gof g + (y 0).val)).toNat (y 1).val

theorem list_set (g : Fin 10) : (listM g).view.set = win (gof g) (gof g + gsz g) := by
  show ((View.whole cc0_scratch3).slice _).set = _
  rw [View.set_slice_whole]
  ext x
  rw [Rect.mem_set_unit, mem_win]
  constructor
  · intro h; exact h 0
  · intro h a; obtain rfl : a = (0 : Fin 1) := Subsingleton.elim (α := Fin 1) _ _; exact h

theorem shtM_set : (shtM).view.set = Finset.univ := by
  show ((View.whole cc0_scratch8).slice _).set = _
  rw [View.set_slice_whole]
  ext x
  rw [Rect.mem_set_unit]
  refine ⟨fun _ => Finset.mem_univ _, fun _ a => ?_⟩
  fin_cases a
  · exact ⟨Nat.zero_le _, by show (x 0).val < 0 + 1041; have : (x 0).val < 1041 := (x 0).isLt; omega⟩
  · exact ⟨Nat.zero_le _, by show (x 1).val < 0 + 128; have : (x 1).val < 128 := (x 1).isLt; omega⟩

theorem read_list (g : Fin 10) (x : (SL g).Idx) : (listM g).view.read (Elt F) (posC ids i) x = posN ids i (gof g + (x 0).val) := by
  show posN ids i (gof g + 1 * (x 0).val) = _
  rw [Nat.one_mul]

theorem gof_le (g : Fin 10) : gof g + gsz g ≤ 1024 := by revert g; decide

theorem read_list_lt (hp : PosOK i ids) (g : Fin 10) (x : (SL g).Idx) :
    ((listM g).view.read (Elt F) (posC ids i) x).toNat < S1041x128.size (gaG g).axis := by
  rw [read_list (F := F)]
  have h1 : (x 0).val < gsz g := (x 0).isLt
  have h2 := gof_le g
  exact hp _ (by omega)

theorem gather_payload (hp : PosOK i ids) (g : Fin 10) :
    SparseCore.gatherPayload (F := F) (gaG g) (shtM.view.read (Elt F) (shtC tab))
      (SparseCore.rows ((listM g).view.read (Elt F) (posC ids i)) (numG g) (read_list_lt (F := F) i ids hp g)) = rowsG i ids tab g := by
  funext y
  unfold SparseCore.gatherPayload
  set r := SparseCore.rows ((listM g).view.read (Elt F) (posC ids i)) (numG g) (read_list_lt (F := F) i ids hp g) with hr
  have h0 : ((gaG g).idx r y 0).val = (posN ids i (gof g + (y 0).val)).toNat := by
    have e : (gaG g).idx r y 0 = r (y (gaG g).axis') := Shape.Gathers.idx_axis (gaG g) r y
    rw [e, hr]
    unfold SparseCore.rows
    show ((listM g).view.read (Elt F) (posC ids i) _).toNat = _
    rw [read_list (F := F)]
    congr 3
    have hk := Shape.rowMajor_val_one ((SL g).rowMajor.symm (Fin.cast (numG g).symm (y (gaG g).axis')))
    rw [Equiv.apply_symm_apply] at hk
    exact hk.symm
  have h1 : ((gaG g).idx r y 1).val = (y 1).val := Shape.Gathers.idx_of_ne (gaG g) r y 1 (by decide)
  show shtN tab (0 + 1 * ((gaG g).idx r y 0).val) (0 + 1 * ((gaG g).idx r y 1).val) = _
  rw [h0, h1, Nat.zero_add, Nat.one_mul, Nat.zero_add, Nat.one_mul]
  rfl

/-- What gather `g` hands back at its wait: its slot filled, its share of the shared table, its list. -/
def Got (g : Fin 10) (q : PosShare TreeShare) : sProp (Mod F) :=
  iprop((∃ f, ⌜(slotM g).view.read (Elt F) f = rowsG i ids tab g⌝ ∗ slotP d i g f) ∗ shtQ d i tab q ∗ posP d i (win (gof g) (gof g + gsz g)) (posC ids i))

theorem slot_credit (g : Fin 10) : ∑ j, ((slotM g).slice ((SG g).rowRect (gaG g).axis' j) ((SG g).stride_rowRect (gaG g).axis' j)).view.dmaCredit
    = (slotM g).view.dmaCredit := by
  revert g; decide +kernel

theorem numel_pos (g : Fin 10) : 0 < (SG g).numel := by revert g; decide

/-- Gather `g` started. -/
theorem gStart_wp (hp : PosOK i ids) (g : Fin 10) (q : PosShare TreeShare) :
    iprop(shtQ d i tab q ∗ (∃ f, slotP d i g f) ∗ posP d i (win (gof g) (gof g + gsz g)) (posC ids i) ∗ dsem d i (gsem g))
      ⊢ twp (F := F) d i (gStart i g) (fun _ => Transfers.Flight countersEmb (vt d i) (.dma (gsem g)) (default : HIx 1) ((slotM g).view.dmaCredit) (Got d i ids tab g q)) := by
  unfold twp
  rw [← bind_pure (gStart i g)]
  unfold gStart
  iintro ⟨Hs, ⟨%f, Hr⟩, Hp, Hv⟩
  have es : (shtQ (F := F) d i tab q) = (shtM.view.loc (vt d i) ↦[shtM.view.set]{q} (shtC tab)) := by rw [shtM_set]
  have ep : (posP (F := F) d i (win (gof g) (gof g + gsz g)) (posC ids i)) = ((listM g).view.loc (vt d i) ↦[(listM g).view.set]{fullShare} (posC ids i)) := by
    rw [list_set]
  ihave Hs := (Entails.of_eq es) $$ Hs
  ihave Hp := (Entails.of_eq ep) $$ Hp
  have H := SparseCore.wp_indirectGatherLocal (defs := defs₀ (F := F)) (Q := fun _ => Transfers.Flight countersEmb (vt d i) (.dma (gsem g)) (default : HIx 1) ((slotM g).view.dmaCredit) (Got d i ids tab g q))
      countersEmb 𝒱₀ (vt d i) none (src := shtM) (dst := slotM g) (hg := gaG g) (offs := listM g) (hn := numG g) (sem := gsem g)
      (hp := rfl) (hsrc := View.wordExact_bits rfl) (he := rfl) (hsp := Or.inr rfl) (hr := by decide) (k := pure) (q := q) (qo := fullShare) (fs := shtC tab) (fd := f) (fo := posC ids i) (default : HIx 1)
      (slotM g).view.dmaCredit (slot_credit g) (numel_pos g) (read_list_lt (F := F) i ids hp g)
  iapply H $$ [Hs Hr Hp Hv]
  · isplitl [Hs]; · iexact Hs
    isplitl [Hr]; · iexact Hr
    isplitl [Hp]; · iexact Hp
    iexact Hv
  iintro Hf
  sl_step
  iapply (Transfers.Flight_mono (EC := countersEmb) ?_) $$ Hf
  unfold Got
  iintro ⟨Hr, Hs, Hp⟩
  isplitl [Hr]
  · iexists _; isplitr
    swap; · iexact Hr
    ipureintro
    rw [View.read_write_univ]; exact gather_payload i ids tab hp g
  isplitl [Hs]; · iapply (Entails.of_eq es.symm); iexact Hs
  iapply (Entails.of_eq ep.symm); iexact Hp

/-! ## The stores -/

theorem tileAt_self (i : grid0.Coords) : tileAt (i 0).val ((i 1).val / 8) ((i 1).val % 8) = i := by
  have h0 : (i 0).val < 2 := (i 0).isLt
  have h1 : (i 1).val < 16 := (i 1).isLt
  funext a
  match a with
  | 0 => exact Fin.ext (show (i 0).val % 2 = (i 0).val by omega)
  | 1 => exact Fin.ext (show (8 * ((i 1).val / 8) + (i 1).val % 8) % 16 = (i 1).val by omega)

/-- The kernel's result at a place of the tile's gather `g`. -/
theorem outF_at (g : Fin 10) (y : (SG g).Idx) (X : S4x8192x128.Idx) (h0 : (X 0).val = 2 * (i 0).val + (i 1).val / 8)
    (h1 : (X 1).val = 1024 * ((i 1).val % 8) + gof g + (y 0).val) (h2 : (X 2).val = (y 1).val) : outF ids tab X = rowsG i ids tab g y := by
  have hy : (y 0).val < gsz g := (y 0).isLt
  have hg := gof_le g
  have hi : (i 1).val < 16 := (i 1).isLt
  unfold outF rowsG
  rw [h0, h1, h2, show (2 * (i 0).val + (i 1).val / 8) / 2 = (i 0).val by omega, show (2 * (i 0).val + (i 1).val / 8) % 2 = (i 1).val / 8 by omega,
    show (1024 * ((i 1).val % 8) + gof g + (y 0).val) / 1024 = (i 1).val % 8 by omega,
    show (1024 * ((i 1).val % 8) + gof g + (y 0).val) % 1024 = gof g + (y 0).val by omega, tileAt_self]

theorem read_out (g : Fin 10) : (outM i g).view.read (Elt F) (outF ids tab) = rowsG i ids tab g := by
  funext y
  have e : ∀ h, Shape.reshapeEquiv (s := SG1 g) (s' := SG g) h y = Fin.cons ⟨0, Nat.one_pos⟩ y := fun h => Shape.reshapeEquiv_cons_one h y
  have ho := offO_eq i g
  refine outF_at i ids tab g y _ ?_ ?_ ?_
  · show offO i g 0 + 1 * (Shape.reshapeEquiv (s := SG1 g) (s' := SG g) _ y 0).val = _
    rw [e, ho]; rfl
  · show offO i g 1 + 1 * (Shape.reshapeEquiv (s := SG1 g) (s' := SG g) _ y 1).val = _
    rw [e, ho]
    show 1024 * ((i 1).val % 8) + gof g + 1 * (y 0).val = _
    rw [Nat.one_mul]
  · show offO i g 2 + 1 * (Shape.reshapeEquiv (s := SG1 g) (s' := SG g) _ y 2).val = _
    rw [e, ho]
    show 0 + 1 * (y 1).val = _
    rw [Nat.one_mul, Nat.zero_add]

/-- What store `g` hands back at its wait: its place of the result written, its slot. -/
def Sent (g : Fin 10) : sProp (Mod F) := iprop(outP d i g (outF ids tab) ∗ ∃ f, slotP d i g f)

theorem out_credit (g : Fin 10) : 0 < (outM i g).view.dmaCredit := View.dmaCredit_pos _ (numel_pos g)

/-- Store `g` started. -/
theorem sStart_wp (g : Fin 10) :
    iprop((∃ f, ⌜(slotM g).view.read (Elt F) f = rowsG i ids tab g⌝ ∗ slotP d i g f) ∗ (∃ f, outP d i g f) ∗ dsem d i (ssem g))
      ⊢ twp (F := F) d i (sStart i g) (fun _ => Transfers.Flight countersEmb (vt d i) (.dma (ssem g)) (default : HIx 1) ((outM i g).view.dmaCredit) (Sent d i ids tab g)) := by
  unfold twp sStart
  iintro ⟨⟨%f, %hf, Hr⟩, ⟨%fo, Ho⟩, Hv⟩
  iapply (Transfers.wp_dmaLocal countersEmb 𝒱₀ (vt d i) none (default : HIx 1) (outM i g).view.dmaCredit rfl (out_credit i g) (Finset.Subset.refl _)) $$ [Hr Ho Hv]
  · isplitl [Hr]; · iexact Hr
    isplitl [Ho]; · iexact Ho
    iexact Hv
  iintro Hf
  sl_step
  iapply (Transfers.Flight_mono (EC := countersEmb) ?_) $$ Hf
  unfold Sent
  iintro ⟨Ho, Hr⟩
  isplitl [Ho]
  · iapply (Entails.of_eq (pts_written (F := F) (c := vt d i) (outM i g).view fullShare fo (outF ids tab) _ ((read_out i ids tab g).trans hf.symm))); iexact Ho
  iexists f; iexact Hr

/-! ## The waits -/

/-- Gather `g` waited for. -/
theorem gWait_wp (O : CellTallies nD τ sig (HIx 1)) (W : Waits sig (HIx 1)) (g : Fin 10) (D : sProp (Mod F)) :
    iprop(Transfers.MayWaits (vt d i) (default : HIx 1) O ∗ Transfers.Flight countersEmb (vt d i) (.dma (gsem g)) (default : HIx 1) ((slotM g).view.dmaCredit) D ∗ OW d i O W)
      ⊢ twp (F := F) d i (gWait i g) (fun _ => iprop(D ∗ dsem d i (gsem g) ∗ OW d i O W)) := by
  unfold gWait
  exact wait_wp d i O W rfl D

/-- Store `g` waited for. -/
theorem sWait_wp (O : CellTallies nD τ sig (HIx 1)) (W : Waits sig (HIx 1)) (g : Fin 10) (D : sProp (Mod F)) :
    iprop(Transfers.MayWaits (vt d i) (default : HIx 1) O ∗ Transfers.Flight countersEmb (vt d i) (.dma (ssem g)) (default : HIx 1) ((outM i g).view.dmaCredit) D ∗ OW d i O W)
      ⊢ twp (F := F) d i (sWait i g) (fun _ => iprop(D ∗ dsem d i (ssem g) ∗ OW d i O W)) := by
  unfold sWait
  exact wait_wp d i O W rfl D

end Cert.Proof.Embed

end
-- ==== Proof.RingRun.lean ====
module

public import proofs.«01_k».proof.Proof.Ring

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (d : Dev nD) (i : grid0.Coords) (ids : S4x8192.Idx → BitVec 32) (tab : S1024x128.Idx → F .f32)

/-! ## The ring's slots -/

/-- The first `n` rows of slot `k`. -/
def slotW (k n : ℕ) : Finset S6x128x128.Idx := Finset.univ.filter fun x => (x 0).val = k ∧ (x 1).val < n
theorem mem_slotW {k n : ℕ} {x : S6x128x128.Idx} : x ∈ slotW k n ↔ (x 0).val = k ∧ (x 1).val < n := by
  unfold slotW; rw [Finset.mem_filter]; exact and_iff_right (Finset.mem_univ _)

theorem slot_set (g : Fin 10) : (slotM g).view.set = slotW (gsl g) (gsz g) := by
  show (((View.whole cc0_scratch6).slice _).reshape _ _).set = _
  rw [View.set_reshape, View.set_slice_whole]
  ext x
  rw [Rect.mem_set_unit, mem_slotW]
  have h2 : (x 2).val < 128 := (x 2).isLt
  constructor
  · intro h
    have a0 : gsl g ≤ (x 0).val ∧ (x 0).val < gsl g + 1 := h 0
    have a1 : 0 ≤ (x 1).val ∧ (x 1).val < 0 + gsz g := h 1
    omega
  · intro h a
    match a with
    | 0 => exact (show gsl g ≤ (x 0).val ∧ (x 0).val < gsl g + 1 by omega)
    | 1 => exact (show 0 ≤ (x 1).val ∧ (x 1).val < 0 + gsz g by omega)
    | 2 => exact (show 0 ≤ (x 2).val ∧ (x 2).val < 0 + 128 by omega)

/-- A part of the ring at some contents. -/
abbrev ringP (S : Finset S6x128x128.Idx) : sProp (Mod F) := iprop(∃ f, rowsV.view.loc (vt d i) ↦[S]{fullShare} f)

theorem slot_eq (g : Fin 10) : (iprop(∃ f, slotP (F := F) d i g f) : sProp (Mod F)) = ringP d i (slotW (gsl g) (gsz g)) := by
  unfold slotP; rw [slot_set]; rfl

/-- A slot cut into what a shorter gather takes of it and the rest. -/
theorem slot_cut {k n n' : ℕ} (h : n' ≤ n) : (ringP (F := F) d i (slotW k n)) ⊢ iprop(ringP d i (slotW k n') ∗ ringP d i (slotW k n \ slotW k n')) := by
  have hs : slotW k n' ⊆ slotW k n := fun x hx => mem_slotW.mpr ⟨(mem_slotW.mp hx).1, lt_of_lt_of_le (mem_slotW.mp hx).2 h⟩
  iintro ⟨%f, H⟩
  ihave H := (pointsTo_split_subset (q := fullShare) (f := f) hs).1 $$ H
  icases H with ⟨H1, H2⟩
  isplitl [H1]
  · iexists f; iexact H1
  iexists f; iexact H2

/-- And put together again. -/
theorem slot_join {k n n' : ℕ} (h : n' ≤ n) : iprop(ringP (F := F) d i (slotW k n') ∗ ringP d i (slotW k n \ slotW k n')) ⊢ ringP d i (slotW k n) := by
  have hs : slotW k n' ⊆ slotW k n := fun x hx => mem_slotW.mpr ⟨(mem_slotW.mp hx).1, lt_of_lt_of_le (mem_slotW.mp hx).2 h⟩
  have hd : Disjoint (slotW k n') (slotW k n \ slotW k n') := Finset.disjoint_sdiff
  iintro ⟨⟨%f, H1⟩, ⟨%f', H2⟩⟩
  ihave H := (pointsTo_join (q := fullShare) (f := f) (g := f') hd) $$ [H1 H2]
  · isplitl [H1] <;> iassumption
  rw [Finset.union_sdiff_of_subset hs]
  iexists _; iexact H

/-- Nothing is left of a slot taken whole. -/
theorem slot_rest (k n : ℕ) : (iprop(emp) : sProp (Mod F)) ⊢ ringP d i (slotW k n \ slotW k n) := by
  rw [Finset.sdiff_self]
  iintro -
  iexists (fun _ => Scalar.ofBits .f32 0)
  iapply (Entails.of_eq pointsTo_empty.symm)
  iempintro

/-! ## The ring's stages -/

abbrev GFl (g : Fin 10) (q : PosShare TreeShare) : sProp (Mod F) :=
  Transfers.Flight countersEmb (vt d i) (.dma (gsem g)) (default : HIx 1) ((slotM g).view.dmaCredit) (Got d i ids tab g q)
abbrev SFl (g : Fin 10) : sProp (Mod F) :=
  Transfers.Flight countersEmb (vt d i) (.dma (ssem g)) (default : HIx 1) ((outM i g).view.dmaCredit) (Sent d i ids tab g)
abbrev posG (g : Fin 10) : sProp (Mod F) := iprop(∃ f, posP d i (win (gof g) (gof g + gsz g)) f)
abbrev posD (g : Fin 10) : sProp (Mod F) := posP d i (win (gof g) (gof g + gsz g)) (posC ids i)
abbrev outG (g : Fin 10) : sProp (Mod F) := iprop(∃ f, outP d i g f)
abbrev outD (g : Fin 10) : sProp (Mod F) := outP d i g (outF ids tab)
abbrev masks : sProp (Mod F) := iprop(cmP d i (cmC ids i) ∗ omP d i (omC ids i))
abbrev MW (O : CellTallies nD τ sig (HIx 1)) : sProp (Mod F) := Transfers.MayWaits (vt d i) (default : HIx 1) O

variable {α : Type} {k : TP F i α} {R : α → sProp (Mod F)}

theorem twp_ret (a : α) : R a ⊢ twp (F := F) d i (pure a) R := by
  unfold twp
  iintro H
  sl_step
  iexact H

theorem twp_last {p : TP F i PUnit} {R : PUnit → sProp (Mod F)} : twp (F := F) d i (p >>= fun _ => pure ⟨⟩) R ⊢ twp d i p R :=
  Entails.of_eq (by rw [bind_pure p])

/-- A list of rows written. -/
theorem list_seq (g : Fin 10) (n v : ℕ) (h : v + n ≤ 64) (h0 : 16 * v = gof g) (h1 : 16 * (v + n) = gof g + gsz g) :
    iprop(masks d i ids ∗ posG d i g)
      ⊢ iprop((iprop(masks d i ids ∗ posD d i ids g) -∗ twp d i k R) -∗ twp (F := F) d i (chainP i (cinF ids i 7) n v h >>= fun _ => k) R) := by
  unfold posG posD
  rw [← h1, ← h0]
  iintro ⟨⟨Hc, Ho⟩, Hp⟩ HR
  iapply (twp_seq (list_wp (F := F) d i ids n v h)) $$ [Hc Ho Hp]
  · isplitl [Hc]; · iexact Hc
    isplitl [Ho]; · iexact Ho
    iexact Hp
  iintro %_ H
  iapply HR $$ H

/-- A gather's list written and the gather started, its slot free. -/
theorem fetch_seq (hp : PosOK i ids) (g : Fin 10) (q : PosShare TreeShare) (n v : ℕ) (h : v + n ≤ 64) (h0 : 16 * v = gof g) (h1 : 16 * (v + n) = gof g + gsz g) :
    iprop(masks d i ids ∗ posG d i g ∗ shtQ d i tab q ∗ ringP d i (slotW (gsl g) (gsz g)) ∗ dsem d i (gsem g))
      ⊢ iprop((iprop(masks d i ids ∗ GFl d i ids tab g q) -∗ twp d i k R)
        -∗ twp (F := F) d i (chainP i (cinF ids i 7) n v h >>= fun _ => gStart i g >>= fun _ => k) R) := by
  iintro ⟨Hm, Hp, Hs, Hr, Hv⟩ HR
  iapply (list_seq (F := F) d i ids g n v h h0 h1) $$ [Hm Hp]
  · isplitl [Hm] <;> iassumption
  iintro ⟨Hm, Hp⟩
  ihave Hr := (Entails.of_eq (slot_eq (F := F) d i g).symm) $$ Hr
  iapply (twp_seq (gStart_wp (F := F) d i ids tab hp g q)) $$ [Hp Hs Hr Hv]
  · isplitl [Hs]; · iexact Hs
    isplitl [Hr]; · iexact Hr
    isplitl [Hp]; · iexact Hp
    iexact Hv
  iintro %_ Hf
  iapply HR
  isplitl [Hm] <;> iassumption

/-- A store waited for. -/
theorem sent_seq (O : CellTallies nD τ sig (HIx 1)) (W : Waits sig (HIx 1)) (g : Fin 10) :
    iprop(MW d i O ∗ SFl d i ids tab g ∗ OW d i O W)
      ⊢ iprop((iprop(outD d i ids tab g ∗ ringP d i (slotW (gsl g) (gsz g)) ∗ dsem d i (ssem g) ∗ OW d i O W) -∗ twp d i k R)
        -∗ twp (F := F) d i (sWait i g >>= fun _ => k) R) := by
  iintro H HR
  iapply (twp_seq (sWait_wp (F := F) d i O W g _)) $$ H
  unfold Sent
  iintro %_ ⟨⟨Ho, Hr⟩, Hv, HO⟩
  iapply HR
  isplitl [Ho]; · iexact Ho
  isplitl [Hr]; · iapply (Entails.of_eq (slot_eq (F := F) d i g)); iexact Hr
  isplitl [Hv] <;> iassumption

/-- A gather's list written, the store from its slot waited for, and the gather started. -/
theorem refetch_seq (hp : PosOK i ids) (O : CellTallies nD τ sig (HIx 1)) (W : Waits sig (HIx 1)) (g g' : Fin 10) (hsl : gsl g' = gsl g) (hsz : gsz g' ≤ gsz g)
    (q : PosShare TreeShare) (n v : ℕ) (h : v + n ≤ 64) (h0 : 16 * v = gof g) (h1 : 16 * (v + n) = gof g + gsz g) :
    iprop(MW d i O ∗ masks d i ids ∗ posG d i g ∗ shtQ d i tab q ∗ SFl d i ids tab g' ∗ ringP d i (slotW (gsl g) (gsz g) \ slotW (gsl g) (gsz g')) ∗ dsem d i (gsem g) ∗ OW d i O W)
      ⊢ iprop((iprop(masks d i ids ∗ GFl d i ids tab g q ∗ outD d i ids tab g' ∗ dsem d i (ssem g') ∗ OW d i O W) -∗ twp d i k R)
        -∗ twp (F := F) d i (chainP i (cinF ids i 7) n v h >>= fun _ => sWait i g' >>= fun _ => gStart i g >>= fun _ => k) R) := by
  iintro ⟨Hmw, Hm, Hp, Hs, Hf, Hr, Hv, HO⟩ HR
  iapply (list_seq (F := F) d i ids g n v h h0 h1) $$ [Hm Hp]
  · isplitl [Hm] <;> iassumption
  iintro ⟨Hm, Hp⟩
  iapply (sent_seq (F := F) d i ids tab O W g') $$ [Hmw Hf HO]
  · isplitl [Hmw]; · iexact Hmw
    isplitl [Hf] <;> iassumption
  iintro ⟨Ho, Hr', Hv', HO⟩
  rw [hsl]
  ihave Hr := (slot_join (F := F) d i (k := gsl g) hsz) $$ [Hr Hr']
  · isplitl [Hr'] <;> iassumption
  ihave Hr := (Entails.of_eq (slot_eq (F := F) d i g).symm) $$ Hr
  iapply (twp_seq (gStart_wp (F := F) d i ids tab hp g q)) $$ [Hp Hs Hr Hv]
  · isplitl [Hs]; · iexact Hs
    isplitl [Hr]; · iexact Hr
    isplitl [Hp]; · iexact Hp
    iexact Hv
  iintro %_ Hf
  iapply HR
  isplitl [Hm]; · iexact Hm
  isplitl [Hf]; · iexact Hf
  isplitl [Ho]; · iexact Ho
  isplitl [Hv'] <;> iassumption

/-- A gather waited for and its rows' store started. -/
theorem drain_seq (O : CellTallies nD τ sig (HIx 1)) (W : Waits sig (HIx 1)) (g : Fin 10) (q : PosShare TreeShare) :
    iprop(MW d i O ∗ GFl d i ids tab g q ∗ outG d i g ∗ dsem d i (ssem g) ∗ OW d i O W)
      ⊢ iprop((iprop(SFl d i ids tab g ∗ posD d i ids g ∗ shtQ d i tab q ∗ dsem d i (gsem g) ∗ OW d i O W) -∗ twp d i k R)
        -∗ twp (F := F) d i (gWait i g >>= fun _ => sStart i g >>= fun _ => k) R) := by
  iintro ⟨Hmw, Hf, Ho, Hv, HO⟩ HR
  iapply (twp_seq (gWait_wp (F := F) d i O W g _)) $$ [Hmw Hf HO]
  · isplitl [Hmw]; · iexact Hmw
    isplitl [Hf] <;> iassumption
  unfold Got
  iintro %_ ⟨⟨Hr, Hs, Hp⟩, Hg, HO⟩
  iapply (twp_seq (sStart_wp (F := F) d i ids tab g)) $$ [Hr Ho Hv]
  · isplitl [Hr]; · iexact Hr
    isplitl [Ho] <;> iassumption
  iintro %_ Hf
  iapply HR
  isplitl [Hf]; · iexact Hf
  isplitl [Hp]; · iexact Hp
  isplitl [Hs]; · iexact Hs
  isplitl [Hg] <;> iassumption

/-! ## The whole ring -/

theorem fin10 {M : Type _} [URA M] (Φ : Fin 10 → sProp M) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [BI.bigSep_univ_eq_bigSepL [0, 1, 2, 3, 4, 5, 6, 7, 8, 9] (by decide) (by decide)]; rfl

/-- What group `g` starts from: its part of the list, its token on the shared table, its part of the result. -/
abbrev InG (q : PosShare TreeShare) (g : Fin 10) : sProp (Mod F) := iprop(posG d i g ∗ shtQ d i tab q ∗ outG d i g)
/-- And what it ends with. -/
abbrev OutG (q : PosShare TreeShare) (g : Fin 10) : sProp (Mod F) := iprop(posD d i ids g ∗ shtQ d i tab q ∗ outD d i ids tab g)

/-- A whole slot, named by a group that fills it. -/
abbrev slotG (g : Fin 10) : sProp (Mod F) := ringP d i (slotW (gsl g) (gsz g))

abbrev slots : sProp (Mod F) := iprop(slotG d i 6 ∗ slotG d i 7 ∗ slotG d i 8 ∗ slotG d i 3 ∗ slotG d i 4 ∗ slotG d i 5)
abbrev gsems : sProp (Mod F) := iprop(dsem d i (gsem 0) ∗ dsem d i (gsem 1) ∗ dsem d i (gsem 2) ∗ dsem d i (gsem 3) ∗ dsem d i (gsem 4) ∗ dsem d i (gsem 5) ∗ dsem d i (gsem 6) ∗ dsem d i (gsem 7) ∗ dsem d i (gsem 8))
abbrev ssems : sProp (Mod F) := iprop(dsem d i (ssem 0) ∗ dsem d i (ssem 1) ∗ dsem d i (ssem 2) ∗ dsem d i (ssem 3) ∗ dsem d i (ssem 4) ∗ dsem d i (ssem 5) ∗ dsem d i (ssem 6) ∗ dsem d i (ssem 7) ∗ dsem d i (ssem 8))

/-- The ten groups' rows gathered through the ring and stored: every part of the result is at the embedded rows. -/
theorem ring_wp (hp : PosOK i ids) (O : CellTallies nD τ sig (HIx 1)) (W : Waits sig (HIx 1)) (q : Fin 10 → PosShare TreeShare) :
    iprop(MW d i O ∗ OW d i O W ∗ masks d i ids ∗ (bigSep Finset.univ fun g => InG d i tab (q g) g) ∗ slots d i ∗ gsems d i ∗ ssems d i)
      ⊢ twp (F := F) d i (ring i (cinF ids i 7)) fun _ =>
        iprop(OW d i O W ∗ masks d i ids ∗ (bigSep Finset.univ fun g => OutG d i ids tab (q g) g) ∗ slots d i ∗ gsems d i ∗ ssems d i) := by
  rw [fin10, fin10]
  iintro ⟨#Hmw, HO, Hm, HI, ⟨Hr6, Hr7, Hr8, Hr3, Hr4, Hr5⟩, ⟨Hg0, Hg1, Hg2, Hg3, Hg4, Hg5, Hg6, Hg7, Hg8⟩, ⟨Hs0, Hs1, Hs2, Hs3, Hs4, Hs5, Hs6, Hs7, Hs8⟩⟩
  icases HI with ⟨⟨Hp0, Ht0, Ho0⟩, ⟨Hp1, Ht1, Ho1⟩, ⟨Hp2, Ht2, Ho2⟩, ⟨Hp3, Ht3, Ho3⟩, ⟨Hp4, Ht4, Ho4⟩, ⟨Hp5, Ht5, Ho5⟩, ⟨Hp6, Ht6, Ho6⟩, ⟨Hp7, Ht7, Ho7⟩, ⟨Hp8, Ht8, Ho8⟩, ⟨Hp9, Ht9, Ho9⟩⟩
  ihave Hr6 := (slot_cut (F := F) d i (k := gsl 6) (n := gsz 6) (n' := gsz 0) (by decide)) $$ Hr6
  icases Hr6 with ⟨Hr0, Hq0⟩
  ihave Hr7 := (slot_cut (F := F) d i (k := gsl 7) (n := gsz 7) (n' := gsz 1) (by decide)) $$ Hr7
  icases Hr7 with ⟨Hr1, Hq1⟩
  ihave Hr8 := (slot_cut (F := F) d i (k := gsl 8) (n := gsz 8) (n' := gsz 2) (by decide)) $$ Hr8
  icases Hr8 with ⟨Hr2, Hq2⟩
  unfold ring
  iapply (fetch_seq (F := F) d i ids tab hp 0 (q 0) 2 0 _ rfl rfl) $$ [$Hm $Hp0 $Ht0 $Hr0 $Hg0]
  iintro ⟨Hm, Hf0⟩
  iapply (fetch_seq (F := F) d i ids tab hp 1 (q 1) 2 2 _ rfl rfl) $$ [$Hm $Hp1 $Ht1 $Hr1 $Hg1]
  iintro ⟨Hm, Hf1⟩
  iapply (drain_seq (F := F) d i ids tab O W 0 (q 0)) $$ [$Hmw $Hf0 $Ho0 $Hs0 $HO]
  iintro ⟨Hf0, Hp0, Ht0, Hg0, HO⟩
  iapply (fetch_seq (F := F) d i ids tab hp 2 (q 2) 4 4 _ rfl rfl) $$ [$Hm $Hp2 $Ht2 $Hr2 $Hg2]
  iintro ⟨Hm, Hf2⟩
  iapply (drain_seq (F := F) d i ids tab O W 1 (q 1)) $$ [$Hmw $Hf1 $Ho1 $Hs1 $HO]
  iintro ⟨Hf1, Hp1, Ht1, Hg1, HO⟩
  iapply (fetch_seq (F := F) d i ids tab hp 3 (q 3) 8 8 _ rfl rfl) $$ [$Hm $Hp3 $Ht3 $Hr3 $Hg3]
  iintro ⟨Hm, Hf3⟩
  iapply (drain_seq (F := F) d i ids tab O W 2 (q 2)) $$ [$Hmw $Hf2 $Ho2 $Hs2 $HO]
  iintro ⟨Hf2, Hp2, Ht2, Hg2, HO⟩
  iapply (fetch_seq (F := F) d i ids tab hp 4 (q 4) 8 16 _ rfl rfl) $$ [$Hm $Hp4 $Ht4 $Hr4 $Hg4]
  iintro ⟨Hm, Hf4⟩
  iapply (drain_seq (F := F) d i ids tab O W 3 (q 3)) $$ [$Hmw $Hf3 $Ho3 $Hs3 $HO]
  iintro ⟨Hf3, Hp3, Ht3, Hg3, HO⟩
  iapply (fetch_seq (F := F) d i ids tab hp 5 (q 5) 8 24 _ rfl rfl) $$ [$Hm $Hp5 $Ht5 $Hr5 $Hg5]
  iintro ⟨Hm, Hf5⟩
  iapply (drain_seq (F := F) d i ids tab O W 4 (q 4)) $$ [$Hmw $Hf4 $Ho4 $Hs4 $HO]
  iintro ⟨Hf4, Hp4, Ht4, Hg4, HO⟩
  iapply (refetch_seq (F := F) d i ids tab hp O W 6 0 rfl (by decide) (q 6) 8 32 _ rfl rfl) $$ [$Hmw $Hm $Hp6 $Ht6 $Hf0 $Hq0 $Hg6 $HO]
  iintro ⟨Hm, Hf6, Ho0, Hs0, HO⟩
  iapply (drain_seq (F := F) d i ids tab O W 5 (q 5)) $$ [$Hmw $Hf5 $Ho5 $Hs5 $HO]
  iintro ⟨Hf5, Hp5, Ht5, Hg5, HO⟩
  iapply (refetch_seq (F := F) d i ids tab hp O W 7 1 rfl (by decide) (q 7) 8 40 _ rfl rfl) $$ [$Hmw $Hm $Hp7 $Ht7 $Hf1 $Hq1 $Hg7 $HO]
  iintro ⟨Hm, Hf7, Ho1, Hs1, HO⟩
  iapply (drain_seq (F := F) d i ids tab O W 6 (q 6)) $$ [$Hmw $Hf6 $Ho6 $Hs6 $HO]
  iintro ⟨Hf6, Hp6, Ht6, Hg6, HO⟩
  iapply (refetch_seq (F := F) d i ids tab hp O W 8 2 rfl (by decide) (q 8) 8 48 _ rfl rfl) $$ [$Hmw $Hm $Hp8 $Ht8 $Hf2 $Hq2 $Hg8 $HO]
  iintro ⟨Hm, Hf8, Ho2, Hs2, HO⟩
  iapply (drain_seq (F := F) d i ids tab O W 7 (q 7)) $$ [$Hmw $Hf7 $Ho7 $Hs7 $HO]
  iintro ⟨Hf7, Hp7, Ht7, Hg7, HO⟩
  -- the last group's slot and semaphores are those of group 3, of the same size
  ihave Hq3 := (slot_rest (F := F) d i (gsl 9) (gsz 9)) $$ []
  · iempintro
  iapply (refetch_seq (F := F) d i ids tab hp O W 9 3 rfl (by decide) (q 9) 8 56 _ rfl rfl) $$ [$Hmw $Hm $Hp9 $Ht9 $Hf3 $Hq3 $Hg3 $HO]
  iintro ⟨Hm, Hf9, Ho3, Hs3, HO⟩
  iapply (drain_seq (F := F) d i ids tab O W 8 (q 8)) $$ [$Hmw $Hf8 $Ho8 $Hs8 $HO]
  iintro ⟨Hf8, Hp8, Ht8, Hg8, HO⟩
  iapply (drain_seq (F := F) d i ids tab O W 9 (q 9)) $$ [$Hmw $Hf9 $Ho9 $Hs3 $HO]
  iintro ⟨Hf9, Hp9, Ht9, Hg9, HO⟩
  iapply (sent_seq (F := F) d i ids tab O W 4) $$ [$Hmw $Hf4 $HO]
  iintro ⟨Ho4, Hr4, Hs4, HO⟩
  iapply (sent_seq (F := F) d i ids tab O W 5) $$ [$Hmw $Hf5 $HO]
  iintro ⟨Ho5, Hr5, Hs5, HO⟩
  iapply (sent_seq (F := F) d i ids tab O W 6) $$ [$Hmw $Hf6 $HO]
  iintro ⟨Ho6, Hr6, Hs6, HO⟩
  iapply (sent_seq (F := F) d i ids tab O W 7) $$ [$Hmw $Hf7 $HO]
  iintro ⟨Ho7, Hr7, Hs7, HO⟩
  iapply (sent_seq (F := F) d i ids tab O W 8) $$ [$Hmw $Hf8 $HO]
  iintro ⟨Ho8, Hr8, Hs8, HO⟩
  iapply (twp_last (F := F) d i)
  iapply (sent_seq (F := F) d i ids tab O W 9) $$ [$Hmw $Hf9 $HO]
  iintro ⟨Ho9, Hr9, Hs9, HO⟩
  iapply (twp_ret (F := F) d i _)
  iframe HO Hm
  isplitl [Hp0 Ht0 Ho0 Hp1 Ht1 Ho1 Hp2 Ht2 Ho2 Hp3 Ht3 Ho3 Hp4 Ht4 Ho4 Hp5 Ht5 Ho5 Hp6 Ht6 Ho6 Hp7 Ht7 Ho7 Hp8 Ht8 Ho8 Hp9 Ht9 Ho9]
  · unfold OutG; iframe
  unfold slots gsems ssems slotG; iframe
  isplitl [Hr9]; · iexact Hr9
  isplitl [Hg9]; · iexact Hg9
  iexact Hs9

end Cert.Proof.Embed

end
-- ==== Proof.Fetch.lean ====
module

public import proofs.«01_k».proof.Proof.RingRun
public import Idealize.ShloMosaic.Lib.SparseCore.Scatter

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (d : Dev nD) (i : grid0.Coords) (ids : S4x8192.Idx → BitVec 32) (tab : S1024x128.Idx → F .f32)

/-! ## A copy between two views -/

/-- A copy started: what it hands back at its wait is the target at any contents `g` that read as the source does, and the source. -/
theorem copy_wp {sp sp' : Space} {s : Shape} {e : EltTy} {sem : DmaSem sig} {src : Memref sig .scVector sp s e} {dst : Memref sig .scVector sp' s e}
    {hsrc : src.view.WordExact} {hdst : dst.view.WordExact} {hsem : DmaTarget.Typed (nD := nD) sp (.dma sem) (DmaTarget.here (p := (vt d i).2) dst)} (q : PosShare TreeShare)
    (f : Buf (Elt F) (src.view.loc (vt d i))) (g : Buf (Elt F) (dst.view.loc (vt d i))) (hn : 0 < s.numel)
    (h : dst.view.read (Elt F) g = src.view.read (Elt F) f) :
    iprop((src.view.loc (vt d i) ↦{q} f) ∗ (∃ f', dst.view.loc (vt d i) ↦[dst.view.set]{fullShare} f') ∗ dsem d i sem)
      ⊢ twp (F := F) d i (Prog.lift (.enqueueDma src (.here dst) (.dma sem) hsrc hdst hsem)) (fun _ =>
        Transfers.Flight countersEmb (vt d i) (.dma sem) (default : HIx 1) dst.view.dmaCredit
          iprop((dst.view.loc (vt d i) ↦[dst.view.set]{fullShare} g) ∗ (src.view.loc (vt d i) ↦{q} f))) := by
  unfold twp
  iintro ⟨Hs, ⟨%f', Hd⟩, Hv⟩
  ihave Hs := (pointsTo_split_subset (q := q) (f := f) (Finset.subset_univ src.view.set)).1 $$ Hs
  icases Hs with ⟨Hs, Hr⟩
  iapply (Transfers.wp_dmaLocal countersEmb 𝒱₀ (vt d i) none (default : HIx 1) dst.view.dmaCredit rfl (View.dmaCredit_pos _ hn) (Finset.Subset.refl _)) $$ [Hs Hd Hv]
  · isplitl [Hs]; · iexact Hs
    isplitl [Hd]; · iexact Hd
    iexact Hv
  iintro Hf
  sl_step
  ihave Hf := (Transfers.Flight_frame (EC := countersEmb)) $$ [Hr Hf]
  · isplitl [Hr]; · iexact Hr
    iexact Hf
  iapply (Transfers.Flight_mono (EC := countersEmb) ?_) $$ Hf
  iintro ⟨Hr, Hd, Hs⟩
  isplitl [Hd]
  · iapply (Entails.of_eq (pts_written (F := F) (c := vt d i) dst.view fullShare f' g _ h)); iexact Hd
  iapply (pointsTo_split_subset (q := q) (f := f) (Finset.subset_univ src.view.set)).2
  isplitl [Hs] <;> iassumption

/-! ## The tile's rows of the shared arrays -/

/-- The tile whose row of the shared table row `r` is. -/
def owner (r : ℕ) : ℕ := if r < 1024 then r / 64 else if r < 1040 then r - 1024 else 0
/-- The rows of the shared table that tile `s` fills. -/
def shtOwn (s : ℕ) : Finset S1041x128.Idx := Finset.univ.filter fun x => owner (x 0).val = s
theorem mem_shtOwn {s : ℕ} {x : S1041x128.Idx} : x ∈ shtOwn s ↔ owner (x 0).val = s := by
  unfold shtOwn; rw [Finset.mem_filter]; exact and_iff_right (Finset.mem_univ _)
/-- The chunk's maximum that tile `s` publishes. -/
def shmOwn (s : ℕ) : Finset S2x8x16.Idx := Finset.univ.filter fun x => 8 * (x 0).val + (x 1).val = s
theorem mem_shmOwn {s : ℕ} {x : S2x8x16.Idx} : x ∈ shmOwn s ↔ 8 * (x 0).val + (x 1).val = s := by
  unfold shmOwn; rw [Finset.mem_filter]; exact and_iff_right (Finset.mem_univ _)

theorem mem_shtRows {x : S1041x128.Idx} : x ∈ (shtRowsM i).view.set ↔ 64 * (i 1).val ≤ (x 0).val ∧ (x 0).val < 64 * (i 1).val + 64 := by
  have hs : (shtRowsM i).view.set = (Rect.unit (s := S1041x128) (k0_off1 i) S64x128.size (k0_off1_inb i)).set := View.set_slice_whole _ _
  have h2 : (x 1).val < 128 := (x 1).isLt
  rw [hs, Rect.mem_set_unit, k0_off1_eq]
  constructor
  · intro h; exact h 0
  · intro h a
    match a with
    | 0 => exact h
    | 1 => exact (show 0 ≤ (x 1).val ∧ (x 1).val < 0 + 128 by omega)

theorem mem_shtZero {x : S1041x128.Idx} : x ∈ (shtZeroM i).view.set ↔ (x 0).val = 1024 + (i 1).val := by
  have hs : (shtZeroM i).view.set = (Rect.unit (s := S1041x128) (k0_off3 i) S1x128.size (k0_off3_inb i)).set := View.set_slice_whole _ _
  have h2 : (x 1).val < 128 := (x 1).isLt
  rw [hs, Rect.mem_set_unit, k0_off3_eq]
  constructor
  · intro h
    have h0 : (i 1).val + 1024 ≤ (x 0).val ∧ (x 0).val < (i 1).val + 1024 + 1 := h 0
    omega
  · intro h a
    match a with
    | 0 => exact (show (i 1).val + 1024 ≤ (x 0).val ∧ (x 0).val < (i 1).val + 1024 + 1 by omega)
    | 1 => exact (show 0 ≤ (x 1).val ∧ (x 1).val < 0 + 128 by omega)

theorem mem_shtNan {x : S1041x128.Idx} : x ∈ shtNanM.view.set ↔ (x 0).val = 1040 := by
  have hs : shtNanM.view.set = (Rect.unit (s := S1041x128) ![1040, 0] S1x128.size inb_S1041x128_S1x128_1040_0).set :=
    (View.set_reshape _ _).trans (View.set_slice_whole _ _)
  have h2 : (x 1).val < 128 := (x 1).isLt
  rw [hs, Rect.mem_set_unit]
  constructor
  · intro h
    have h0 : 1040 ≤ (x 0).val ∧ (x 0).val < 1040 + 1 := h 0
    omega
  · intro h a
    match a with
    | 0 => exact (show 1040 ≤ (x 0).val ∧ (x 0).val < 1040 + 1 by omega)
    | 1 => exact (show 0 ≤ (x 1).val ∧ (x 1).val < 0 + 128 by omega)

/-- Tile 0's row of NaNs; nothing for the other tiles. -/
def nanW : Finset S1041x128.Idx := if (i 1).val = 0 then shtNanM.view.set else ∅

theorem mem_nanW {x : S1041x128.Idx} : x ∈ nanW i ↔ (x 0).val = 1040 ∧ (i 1).val = 0 := by
  unfold nanW
  by_cases h0 : (i 1).val = 0
  · rw [if_pos h0, mem_shtNan]; omega
  · rw [if_neg h0]; exact ⟨fun h => absurd h (Finset.notMem_empty _), fun h => absurd h.2 h0⟩

theorem sht_parts : shtOwn (i 1).val = (shtRowsM i).view.set ∪ ((shtZeroM i).view.set ∪ nanW i) := by
  ext x
  have hx : (x 0).val < 1041 := (x 0).isLt
  have hi : (i 1).val < 16 := (i 1).isLt
  rw [Finset.mem_union, Finset.mem_union, mem_shtOwn, mem_shtRows, mem_shtZero, mem_nanW]
  unfold owner
  split_ifs <;> omega

theorem rows_disj : Disjoint (shtRowsM i).view.set ((shtZeroM i).view.set ∪ nanW i) := by
  rw [Finset.disjoint_left]
  intro x h1 h2
  have hi : (i 1).val < 16 := (i 1).isLt
  rw [mem_shtRows] at h1
  rw [Finset.mem_union, mem_shtZero, mem_nanW] at h2
  omega
theorem zero_disj : Disjoint (shtZeroM i).view.set (nanW i) := by
  rw [Finset.disjoint_left]
  intro x h1 h2
  have hi : (i 1).val < 16 := (i 1).isLt
  rw [mem_shtZero] at h1
  rw [mem_nanW] at h2
  omega

theorem off4_eq : k0_off4 i = ![rowN i, baseN i - 16] := by
  revert i; unfold k0_off4 rowN baseN; decide +kernel
theorem off5_eq : k0_off5 i = ![rowN i, baseN i] := by
  revert i; unfold k0_off5 rowN baseN; decide +kernel
theorem off6_eq : k0_off6 i = ![(i 1).val / 8, (i 1).val % 8, 0] := by
  revert i; unfold k0_off6; decide +kernel

theorem shm_set : (shmRowM i).view.set = shmOwn (i 1).val := by
  have hs : (shmRowM i).view.set = (Rect.unit (s := S2x8x16) (k0_off6 i) S1x1x16.size (k0_off6_inb i)).set :=
    (View.set_reshape _ _).trans (View.set_slice_whole _ _)
  ext x
  have h0 : (x 0).val < 2 := (x 0).isLt
  have h1 : (x 1).val < 8 := (x 1).isLt
  have h2 : (x 2).val < 16 := (x 2).isLt
  rw [hs, Rect.mem_set_unit, off6_eq, mem_shmOwn]
  constructor
  · intro h
    have a0 : (i 1).val / 8 ≤ (x 0).val ∧ (x 0).val < (i 1).val / 8 + 1 := h 0
    have a1 : (i 1).val % 8 ≤ (x 1).val ∧ (x 1).val < (i 1).val % 8 + 1 := h 1
    omega
  · intro h a
    match a with
    | 0 => exact (show (i 1).val / 8 ≤ (x 0).val ∧ (x 0).val < (i 1).val / 8 + 1 by omega)
    | 1 => exact (show (i 1).val % 8 ≤ (x 1).val ∧ (x 1).val < (i 1).val % 8 + 1 by omega)
    | 2 => exact (show 0 ≤ (x 2).val ∧ (x 2).val < 0 + 16 by omega)

/-! ## What the copies bring -/

theorem at2_eq {α : Type} {R C : ℕ} [NeZero R] [NeZero C] (x : (⟨2, ![R, C]⟩ : Shape).Idx → α) (p q : ℕ) (y : (⟨2, ![R, C]⟩ : Shape).Idx)
    (h0 : (y 0).val = p) (h1 : (y 1).val = q) : at2 x p q = x y := by
  subst h0 h1
  unfold at2
  congr 1
  funext a
  match a with
  | 0 => exact Fin.ext (Nat.mod_eq_of_lt (y 0).isLt)
  | 1 => exact Fin.ext (Nat.mod_eq_of_lt (y 1).isLt)

theorem read_rows : (shtRowsM i).view.read (Elt F) (shtC tab) = (tabRowsM i).view.read (Elt F) tab := by
  funext y
  have hy : (y 0).val < 64 := (y 0).isLt
  have hi : (i 1).val < 16 := (i 1).isLt
  show shtN tab (k0_off1 i 0 + 1 * (y 0).val) (k0_off1 i 1 + 1 * (y 1).val) = _
  rw [k0_off1_eq]
  show shtN tab (64 * (i 1).val + 1 * (y 0).val) (0 + 1 * (y 1).val) = _
  unfold shtN
  rw [if_pos (by omega)]
  refine at2_eq tab _ _ _ ?_ ?_
  · show k0_off2 i 0 + 1 * (y 0).val = _
    rw [k0_off2_eq]; rfl
  · show k0_off2 i 1 + 1 * (y 1).val = _
    rw [k0_off2_eq]; rfl

theorem read_zero : (shtZeroM i).view.read (Elt F) (shtC tab) = tabZeroM.view.read (Elt F) tab := by
  funext y
  have hy : (y 0).val < 1 := (y 0).isLt
  have hi : (i 1).val < 16 := (i 1).isLt
  show shtN tab (k0_off3 i 0 + 1 * (y 0).val) (k0_off3 i 1 + 1 * (y 1).val) = _
  rw [k0_off3_eq]
  show shtN tab ((i 1).val + 1024 + 1 * (y 0).val) (0 + 1 * (y 1).val) = _
  unfold shtN
  rw [if_neg (by omega), if_pos (by omega)]
  refine at2_eq tab _ _ _ ?_ rfl
  show 0 + 1 * (y 0).val = 0
  omega

/-- The row of NaNs. -/
def nanC : S128.Idx → F .f32 := fun _ => Scalar.ofBits .f32 0x7FC00000#32

theorem read_nan : shtNanM.view.read (Elt F) (shtC tab) = nanV.view.read (Elt F) (nanC (F := F)) := by
  funext y
  have e : ∀ h, Shape.reshapeEquiv (s := S1x128) (s' := S128) h y = Fin.cons ⟨0, Nat.one_pos⟩ y := fun h => Shape.reshapeEquiv_cons_one h y
  show shtN tab (1040 + 1 * (Shape.reshapeEquiv (s := S1x128) (s' := S128) _ y 0).val) _ = _
  rw [e]
  rfl

theorem read_pre : idsVPreM.view.read (Elt F) (idsC ids i) = (idsPreM i).view.read (Elt F) ids := by
  funext y
  have hy : (y 0).val < 16 := (y 0).isLt
  have e : ∀ h, Shape.reshapeEquiv (s := S1x16) (s' := S16) h y = Fin.cons ⟨0, Nat.one_pos⟩ y := fun h => Shape.reshapeEquiv_cons_one h y
  show idsN ids i (0 + 1 * (y 0).val) = _
  unfold idsN
  rw [if_pos (by omega)]
  refine at2_eq ids _ _ _ ?_ ?_
  · show k0_off4 i 0 + 1 * (Shape.reshapeEquiv (s := S1x16) (s' := S16) _ y 0).val = _
    rw [e, off4_eq]; rfl
  · show k0_off4 i 1 + 1 * (Shape.reshapeEquiv (s := S1x16) (s' := S16) _ y 1).val = _
    rw [e, off4_eq]
    show baseN i - 16 + 1 * (y 0).val = baseN i - 16 + (0 + 1 * (y 0).val)
    omega

theorem read_chunk : idsVCurM.view.read (Elt F) (idsC ids i) = (idsCurM i).view.read (Elt F) ids := by
  funext y
  have e : ∀ h, Shape.reshapeEquiv (s := S1x1024) (s' := S1024) h y = Fin.cons ⟨0, Nat.one_pos⟩ y := fun h => Shape.reshapeEquiv_cons_one h y
  show idsN ids i (16 + 1 * (y 0).val) = _
  unfold idsN
  rw [if_neg (by omega)]
  refine at2_eq ids _ _ _ ?_ ?_
  · show k0_off5 i 0 + 1 * (Shape.reshapeEquiv (s := S1x1024) (s' := S1024) _ y 0).val = _
    rw [e, off5_eq]; rfl
  · show k0_off5 i 1 + 1 * (Shape.reshapeEquiv (s := S1x1024) (s' := S1024) _ y 1).val = _
    rw [e, off5_eq]
    show baseN i + 1 * (y 0).val = baseN i + (16 + 1 * (y 0).val - 16)
    omega

theorem shm_at (x : S2x8x16.Idx) (hx : x ∈ shmOwn (i 1).val) : shmC ids (i 0).val x = carryF ids i 64 := by
  rw [mem_shmOwn] at hx
  unfold shmC maxN
  have e : tileAt (i 0).val (x 0).val (x 1).val = i := by
    unfold tileAt
    rw [hx]
    have h0 : (i 0).val < 2 := (i 0).isLt
    have hi : (i 1).val < 16 := (i 1).isLt
    funext a
    match a with
    | 0 => exact Fin.ext (show (i 0).val % 2 = (i 0).val by omega)
    | 1 => exact Fin.ext (show (i 1).val % 16 = (i 1).val by omega)
  rw [e]

theorem read_shm : (shmRowM i).view.read (Elt F) (shmC ids (i 0).val) = tmpV.view.read (Elt F) (fun _ => carryF ids i 64) := by
  funext y
  have hm : (shmRowM i).view.emb y ∈ shmOwn (i 1).val := by rw [← shm_set]; exact View.emb_mem_set _ _
  rw [View.read_apply, View.read_apply]
  exact congrArg (_root_.cast _) (shm_at i ids _ hm)

/-! ## The row of NaNs -/

abbrev nanP (f : S128.Idx → F .f32) : sProp (Mod F) := nanV.view.loc (vt d i) ↦{fullShare} f

/-- A row of which the first `n` sixteenths are NaNs. -/
def nanTo (n : ℕ) (f : S128.Idx → F .f32) : S128.Idx → F .f32 := fun x => if (x 0).val < 16 * n then Scalar.ofBits .f32 0x7FC00000#32 else f x

theorem writes_nan {v : ℕ} (h : v < 8) (f : S128.Idx → F .f32) :
    nanV.view.writes (Elt F) (nanTo v f) [⟨Rect.unit (s := S128) ![16 * v] S16.size (inbN h), (broadcast S16 (Scalar.ofBits .f32 0x7FC00000#32 : F .f32))⟩] = nanTo (v + 1) f := by
  suffices h : nanV.view.read (Elt F) (nanV.view.writes (Elt F) (nanTo v f)
      [⟨Rect.unit (s := S128) ![16 * v] S16.size (inbN h), (broadcast S16 (Scalar.ofBits .f32 0x7FC00000#32 : F .f32))⟩]) = nanTo (v + 1) f by
    rwa [View.read_whole] at h
  funext y
  by_cases hy : 16 * v ≤ (y 0).val ∧ (y 0).val < 16 * v + 16
  · have hl : (ln ((y 0).val - 16 * v) 0).val = (y 0).val - 16 * v := Nat.mod_eq_of_lt (by omega)
    refine (View.read_writes_cons_hit_of_coords (Val := Elt F) nanV.view (nanTo v f) (Rect.unit (s := S128) ![16 * v] S16.size (inbN h)) _ [] (ln ((y 0).val - 16 * v)) y (fun a => ?_)).trans ?_
    · obtain rfl : a = (0 : Fin 1) := Subsingleton.elim (α := Fin 1) _ _
      show (y 0).val = 16 * v + 1 * (ln ((y 0).val - 16 * v) 0).val
      omega
    · unfold nanTo; rw [if_pos (by omega)]; rfl
  · refine (View.read_writes_cons_miss_of_axis (Val := Elt F) nanV.view (nanTo v f) ⟨Rect.unit (s := S128) ![16 * v] S16.size (inbN h), _⟩ [] y 0 (16 * v) 16 rfl rfl rfl (by omega)).trans ?_
    rw [View.writes_nil]
    show nanTo v f y = nanTo (v + 1) f y
    unfold nanTo
    by_cases h1 : (y 0).val < 16 * v
    · rw [if_pos h1, if_pos (by omega)]
    · rw [if_neg h1, if_neg (by omega)]

theorem stepN_wp {v : ℕ} (h : v < 8) (f : S128.Idx → F .f32) :
    nanP d i (nanTo v f) ⊢ twp (F := F) d i (stepN i h) (fun _ => nanP d i (nanTo (v + 1) f)) := by
  unfold stepN twp
  iintro H
  sl_exec
  rw [writes_nan h f]
  sl_step
  iexact H

theorem chainN_wp (f : S128.Idx → F .f32) : (n v : ℕ) → (h : v + n ≤ 8) →
    (nanP d i (nanTo v f) ⊢ twp (F := F) d i (chainN i n v h) (fun _ => nanP d i (nanTo (v + n) f)))
  | 0, v, h => by
    unfold chainN
    exact twp_ret d i _
  | n + 1, v, h => by
    unfold chainN
    iintro H
    iapply (twp_seq (stepN_wp (F := F) d i (v := v) _ f)) $$ H
    iintro %_ H
    rw [show v + (n + 1) = v + 1 + n by omega]
    iapply (chainN_wp f n (v + 1) _) $$ H

end Cert.Proof.Embed

end
-- ==== Proof.Stages.lean ====
module

public import proofs.«01_k».proof.Proof.Fetch

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (d : Dev nD) (i : grid0.Coords) (ids : S4x8192.Idx → BitVec 32) (tab : S1024x128.Idx → F .f32)

/-! ## Shares of the arguments, parts of the shared arrays -/

abbrev idsQ (q : PosShare TreeShare) : sProp (Mod F) := idsH.view.loc (vt d i) ↦{q} ids
abbrev tabQ (q : PosShare TreeShare) : sProp (Mod F) := tabH.view.loc (vt d i) ↦{q} tab
abbrev shtP (S : Finset S1041x128.Idx) (q : PosShare TreeShare) (f : S1041x128.Idx → F .f32) : sProp (Mod F) := shtS.view.loc (vt d i) ↦[S]{q} f
abbrev shmP (S : Finset S2x8x16.Idx) (q : PosShare TreeShare) (f : S2x8x16.Idx → BitVec 32) : sProp (Mod F) := shmS.view.loc (vt d i) ↦[S]{q} f
abbrev tmpP (f : S16.Idx → BitVec 32) : sProp (Mod F) := tmpV.view.loc (vt d i) ↦{fullShare} f

abbrev semRows : DmaSem sig := (cc0_scratch14 : DmaSems sig S_).sem
abbrev semZero : DmaSem sig := (cc0_scratch17 : DmaSems sig S_).sem
abbrev semPre : DmaSem sig := (cc0_scratch15 : DmaSems sig S_).sem
abbrev semCur : DmaSem sig := (cc0_scratch16 : DmaSems sig S_).sem
abbrev semNan : DmaSem sig := (cc0_scoped0 : DmaSems sig S_).sem
abbrev semPub : DmaSem sig := (cc0_scoped1 : DmaSems sig S_).sem
abbrev semCol : DmaSem sig := (cc0_scoped2 : DmaSems sig S_).sem

/-- The copy of the tile's rows of the table, under way. -/
abbrev RowsFl (q : PosShare TreeShare) : sProp (Mod F) :=
  Transfers.Flight countersEmb (vt d i) (.dma semRows) (default : HIx 1) (shtRowsM i).view.dmaCredit
    iprop(shtP d i (shtRowsM i).view.set fullShare (shtC tab) ∗ tabQ d i tab q)
/-- The copy of the table's first row, under way. -/
abbrev ZeroFl (q : PosShare TreeShare) : sProp (Mod F) :=
  Transfers.Flight countersEmb (vt d i) (.dma semZero) (default : HIx 1) (shtZeroM i).view.dmaCredit
    iprop(shtP d i (shtZeroM i).view.set fullShare (shtC tab) ∗ tabQ d i tab q)

theorem first_iff : (Scalar.cmpi .ne (Scalar.extui (Scalar.cmpi .eq (BitVec.ofNat 32 (i 1).val) 0#32) : BitVec 32) 0#32 = 1#1) ↔ (i 1).val = 0 := by
  revert i; decide +kernel

theorem ids_cut : idsVCurM.view.set = (Finset.univ : Finset S1040.Idx) \ idsVPreM.view.set := by
  have h1 : idsVCurM.view.set = (Rect.unit (s := S1040) ![16] S1024.size inb_S1040_S1024_16).set := View.set_slice_whole _ _
  have h0 : idsVPreM.view.set = (Rect.unit (s := S1040) ![0] S16.size inb_S1040_S16_0).set := View.set_slice_whole _ _
  ext x
  have hx : (x 0).val < 1040 := (x 0).isLt
  rw [h1, h0, Finset.mem_sdiff, Rect.mem_set_unit, Rect.mem_set_unit]
  constructor
  · intro h
    have a0 : 16 ≤ (x 0).val ∧ (x 0).val < 16 + 1024 := h 0
    refine ⟨Finset.mem_univ _, fun h' => ?_⟩
    have a1 : 0 ≤ (x 0).val ∧ (x 0).val < 0 + 16 := h' 0
    omega
  · rintro ⟨-, h⟩ a
    obtain rfl : a = (0 : Fin 1) := Subsingleton.elim (α := Fin 1) _ _
    refine (show 16 ≤ (x 0).val ∧ (x 0).val < 16 + 1024 from ⟨?_, by omega⟩)
    by_contra hlt
    refine h fun b => ?_
    obtain rfl : b = (0 : Fin 1) := Subsingleton.elim (α := Fin 1) _ _
    exact (show 0 ≤ (x 0).val ∧ (x 0).val < 0 + 16 by omega)

/-- The tile's part of the shared table: its rows, its copy of row 0, and tile 0's row of NaNs. -/
theorem sht_split (q : PosShare TreeShare) (f : S1041x128.Idx → F .f32) :
    shtP d i (shtOwn (i 1).val) q f = iprop(shtP d i (shtRowsM i).view.set q f ∗ shtP d i (shtZeroM i).view.set q f ∗ shtP d i (nanW i) q f) := by
  unfold shtP
  rw [sht_parts]
  refine (Entails.antisymm (pointsTo_union (rows_disj i)).1 (pointsTo_union (rows_disj i)).2).trans ?_
  rw [Entails.antisymm (pointsTo_union (zero_disj i)).1 (pointsTo_union (zero_disj i)).2]

/-! ## The row of NaNs sent -/

theorem nanRow_wp (O : CellTallies nD τ sig (HIx 1)) (W : Waits sig (HIx 1)) :
    iprop(MW d i O ∗ (∃ f, nanP d i f) ∗ (∃ f, shtP d i shtNanM.view.set fullShare f) ∗ dsem d i semNan ∗ OW d i O W)
      ⊢ twp (F := F) d i (nanRow i) (fun _ => iprop((∃ f, nanP d i f) ∗ shtP d i shtNanM.view.set fullShare (shtC tab) ∗ dsem d i semNan ∗ OW d i O W)) := by
  iintro ⟨Hmw, ⟨%f, Hn⟩, Hs, Hv, HO⟩
  unfold nanRow
  have e0 : nanTo 0 f = f := funext fun x => if_neg (by omega)
  have e8 : nanTo (0 + 8) f = nanC (F := F) := funext fun x => if_pos (show (x 0).val < 128 from (x 0).isLt)
  have H := chainN_wp (F := F) d i f 8 0 (by decide)
  rw [e0, e8] at H
  iapply (twp_seq H) $$ Hn
  iintro %_ Hn
  iapply (twp_seq (copy_wp (F := F) d i fullShare (nanC (F := F)) (shtC tab) (by decide) (read_nan (F := F) tab))) $$ [Hn Hs Hv]
  · isplitl [Hn]; · iexact Hn
    isplitl [Hs]; · iexact Hs
    iexact Hv
  iintro %_ Hf
  iapply (twp_last (F := F) d i)
  iapply (twp_seq (wait_wp (F := F) d i O W rfl _)) $$ [Hmw Hf HO]
  · isplitl [Hmw]; · iexact Hmw
    isplitl [Hf] <;> iassumption
  iintro %_ ⟨⟨Hs, Hn⟩, Hv, HO⟩
  iapply (twp_ret (F := F) d i _)
  isplitl [Hn]; · iexists _; iexact Hn
  isplitl [Hs]; · iexact Hs
  isplitl [Hv] <;> iassumption

/-- On tile 0 the row of NaNs is sent; on the others there is none. -/
theorem nanIf_seq (O : CellTallies nD τ sig (HIx 1)) (W : Waits sig (HIx 1)) {α : Type} {k : PUnit → TP F i α} {R : α → sProp (Mod F)} :
    iprop(MW d i O ∗ (∃ f, nanP d i f) ∗ (∃ f, shtP d i (nanW i) fullShare f) ∗ dsem d i semNan ∗ OW d i O W)
      ⊢ iprop((iprop((∃ f, nanP d i f) ∗ shtP d i (nanW i) fullShare (shtC tab) ∗ dsem d i semNan ∗ OW d i O W) -∗ twp d i (k ⟨⟩) R)
        -∗ twp (F := F) d i (if Scalar.cmpi .ne (Scalar.extui (Scalar.cmpi .eq (BitVec.ofNat 32 (i 1).val) 0#32) : BitVec 32) 0#32 = 1#1 then nanRow i >>= k else k ⟨⟩) R) := by
  by_cases h0 : (i 1).val = 0
  · rw [if_pos ((first_iff i).mpr h0), show nanW i = shtNanM.view.set from if_pos h0]
    iintro H HR
    iapply (twp_seq (nanRow_wp (F := F) d i tab O W)) $$ H
    iintro %_ H
    iapply HR $$ H
  · rw [if_neg (fun h => h0 ((first_iff i).mp h)), show nanW i = ∅ from if_neg h0]
    iintro ⟨-, Hn, ⟨%f, Hs⟩, Hv, HO⟩ HR
    iapply HR
    isplitl [Hn]; · iexact Hn
    isplitl [Hs]
    · iapply (Entails.of_eq (pointsTo_congr (q := fullShare) (f := f) (g := shtC tab) (fun x hx => absurd hx (Finset.notMem_empty x)))); iexact Hs
    isplitl [Hv] <;> iassumption

/-! ## The beginning -/

/-- The table's rows on their way, the tile's ids fetched. -/
theorem begin_wp (O : CellTallies nD τ sig (HIx 1)) (W : Waits sig (HIx 1)) (q₁ q₂ p₁ p₂ : PosShare TreeShare) :
    iprop(MW d i O ∗ OW d i O W ∗ tabQ d i tab q₁ ∗ tabQ d i tab q₂ ∗ idsQ d i ids p₁ ∗ idsQ d i ids p₂
        ∗ (∃ f, shtP (F := F) d i (shtRowsM i).view.set fullShare f) ∗ (∃ f, shtP (F := F) d i (shtZeroM i).view.set fullShare f) ∗ (∃ f, shtP (F := F) d i (nanW i) fullShare f)
        ∗ (∃ f, nanP (F := F) d i f) ∗ (∃ f, idsP d i f)
        ∗ dsem d i semRows ∗ dsem d i semZero ∗ dsem d i semNan ∗ dsem d i semPre ∗ dsem d i semCur)
      ⊢ twp (F := F) d i (begin i) (fun _ => iprop(OW d i O W ∗ RowsFl d i tab q₁ ∗ ZeroFl d i tab q₂ ∗ idsQ d i ids p₁ ∗ idsQ d i ids p₂
        ∗ shtP d i (nanW i) fullShare (shtC tab) ∗ (∃ f, nanP (F := F) d i f) ∗ idsP d i (idsC ids i)
        ∗ dsem d i semNan ∗ dsem d i semPre ∗ dsem d i semCur)) := by
  iintro ⟨#Hmw, HO, Ht1, Ht2, Hi1, Hi2, Hs1, Hs2, Hs3, Hn, ⟨%fi, Hv⟩, Hm1, Hm2, Hm3, Hm4, Hm5⟩
  unfold begin
  iapply (twp_seq (copy_wp (F := F) d i q₁ tab (shtC tab) (by decide) (read_rows (F := F) i tab))) $$ [Ht1 Hs1 Hm1]
  · isplitl [Ht1]; · iexact Ht1
    isplitl [Hs1]; · iexact Hs1
    iexact Hm1
  iintro %_ Hf1
  iapply (twp_seq (copy_wp (F := F) d i q₂ tab (shtC tab) (by decide) (read_zero (F := F) i tab))) $$ [Ht2 Hs2 Hm2]
  · isplitl [Ht2]; · iexact Ht2
    isplitl [Hs2]; · iexact Hs2
    iexact Hm2
  iintro %_ Hf2
  dsimp only
  iapply (nanIf_seq (F := F) d i tab O W) $$ [$Hmw $Hn $Hs3 $Hm3 $HO]
  iintro ⟨Hn, Hs3, Hm3, HO⟩
  ihave Hv := (pointsTo_split_subset (q := fullShare) (f := fi) (Finset.subset_univ idsVPreM.view.set)).1 $$ Hv
  icases Hv with ⟨Hv1, Hv2⟩
  iapply (twp_seq (copy_wp (F := F) d i p₁ ids (idsC ids i) (by decide) (read_pre (F := F) i ids))) $$ [Hi1 Hv1 Hm4]
  · isplitl [Hi1]; · iexact Hi1
    isplitl [Hv1]; · iexists fi; iexact Hv1
    iexact Hm4
  iintro %_ Hf3
  iapply (twp_seq (copy_wp (F := F) d i p₂ ids (idsC ids i) (by decide) (read_chunk (F := F) i ids))) $$ [Hi2 Hv2 Hm5]
  · isplitl [Hi2]; · iexact Hi2
    isplitl [Hv2]; · iexists fi; rw [ids_cut]; iexact Hv2
    iexact Hm5
  iintro %_ Hf4
  iapply (twp_seq (wait_wp (F := F) d i O W rfl _)) $$ [$Hmw $Hf3 $HO]
  iintro %_ ⟨⟨Hv1, Hi1⟩, Hm4, HO⟩
  iapply (twp_last (F := F) d i)
  iapply (twp_seq (wait_wp (F := F) d i O W rfl _)) $$ [$Hmw $Hf4 $HO]
  iintro %_ ⟨⟨Hv2, Hi2⟩, Hm5, HO⟩
  iapply (twp_ret (F := F) d i _)
  ihave Hv := (pointsTo_split_subset (ℓ := idsV.view.loc (vt d i)) (q := fullShare) (f := idsC ids i) (Finset.subset_univ idsVPreM.view.set)).2 $$ [Hv1 Hv2]
  · isplitl [Hv1]; · iexact Hv1
    rw [← ids_cut]; iexact Hv2
  iframe HO Hf1 Hf2
  isplitl [Hi1]; · iexact Hi1
  isplitl [Hi2]; · iexact Hi2
  isplitl [Hs3]; · iexact Hs3
  isplitl [Hn]; · iexact Hn
  isplitl [Hv]; · iexact Hv
  isplitl [Hm3]; · iexact Hm3
  isplitl [Hm4] <;> iassumption

/-! ## The exchange -/

theorem writes_tmp (f : S16.Idx → BitVec 32) (v : BitVec 32) :
    tmpV.view.writes (Elt F) f [⟨Rect.unit (s := S16) ![0] S16.size inb_S16_S16_0, (broadcast S16 v : IVec S16 32)⟩] = (fun _ => v : S16.Idx → BitVec 32) := by
  suffices h : tmpV.view.read (Elt F) (tmpV.view.writes (Elt F) f [⟨Rect.unit (s := S16) ![0] S16.size inb_S16_S16_0, (broadcast S16 v : IVec S16 32)⟩]) = (fun _ => v : S16.Idx → BitVec 32) by
    rwa [View.read_whole] at h
  funext y
  refine (View.read_writes_cons_hit_of_coords (Val := Elt F) tmpV.view f (Rect.unit (s := S16) ![0] S16.size inb_S16_S16_0) _ [] y y (fun a => ?_)).trans rfl
  obtain rfl : a = (0 : Fin 1) := Subsingleton.elim (α := Fin 1) _ _
  show (y 0).val = 0 + 1 * (y 0).val
  omega

/-- The chunk's maximum published, the table's rows arrived: all the tile's part of the two shared arrays is written. -/
theorem publish_wp (O : CellTallies nD τ sig (HIx 1)) (W : Waits sig (HIx 1)) (q₁ q₂ : PosShare TreeShare) :
    iprop(MW d i O ∗ OW d i O W ∗ RowsFl d i tab q₁ ∗ ZeroFl d i tab q₂ ∗ (∃ f, tmpP d i f) ∗ (∃ f, shmP d i (shmOwn (i 1).val) fullShare f) ∗ dsem d i semPub
        ∗ shtP d i (nanW i) fullShare (shtC tab))
      ⊢ twp (F := F) d i (publish i (carryF ids i 64)) (fun _ => iprop(OW d i O W ∗ tabQ d i tab q₁ ∗ tabQ d i tab q₂ ∗ (∃ f, tmpP d i f)
        ∗ shmP d i (shmOwn (i 1).val) fullShare (shmC ids (i 0).val) ∗ shtP d i (shtOwn (i 1).val) fullShare (shtC tab)
        ∗ dsem d i semPub ∗ dsem d i semRows ∗ dsem d i semZero)) := by
  iintro ⟨#Hmw, HO, Hf1, Hf2, ⟨%ft, Ht⟩, Hs, Hm, Hs3⟩
  unfold publish
  unfold twp
  sl_exec
  rw [writes_tmp]
  rw [← shm_set]
  have C := copy_wp (F := F) d i (sem := semPub) (src := tmpV) (dst := shmRowM i) (hsrc := (Memref.isWhole_whole _).wordExact) (hdst := (View.wordExact_bits rfl).reshape _ _)
    (hsem := ⟨Or.inl rfl, trivial⟩) fullShare (fun _ => carryF ids i 64) (shmC ids (i 0).val) (by decide) (read_shm (F := F) i ids)
  iapply (twp_seq C) $$ [$Ht $Hs $Hm]
  iintro %_ Hf
  iapply (twp_seq (wait_wp (F := F) d i O W rfl _)) $$ [$Hmw $Hf $HO]
  iintro %_ ⟨⟨Hs, Ht⟩, Hm, HO⟩
  iapply (twp_seq (wait_wp (F := F) d i O W rfl _)) $$ [$Hmw $Hf1 $HO]
  iintro %_ ⟨⟨Hs1, Ht1⟩, Hm1, HO⟩
  iapply (twp_last (F := F) d i)
  iapply (twp_seq (wait_wp (F := F) d i O W rfl _)) $$ [$Hmw $Hf2 $HO]
  iintro %_ ⟨⟨Hs2, Ht2⟩, Hm2, HO⟩
  iapply (twp_ret (F := F) d i _)
  iframe HO Ht1 Ht2
  isplitl [Ht]; · iexists _; iexact Ht
  isplitl [Hs]; · iexact Hs
  isplitl [Hs1 Hs2 Hs3]
  · iapply (Entails.of_eq (sht_split (F := F) d i fullShare (shtC tab)).symm)
    isplitl [Hs1]; · iexact Hs1
    isplitl [Hs2] <;> iassumption
  isplitl [Hm]; · iexact Hm
  isplitl [Hm1] <;> iassumption

/-- The chunks' maxima fetched. -/
theorem collect_wp (O : CellTallies nD τ sig (HIx 1)) (W : Waits sig (HIx 1)) (q : PosShare TreeShare) :
    iprop(MW d i O ∗ OW d i O W ∗ shmP d i Finset.univ q (shmC ids (i 0).val) ∗ (∃ f, shbP d i f) ∗ dsem d i semCol)
      ⊢ twp (F := F) d i (collect i) (fun _ => iprop(OW d i O W ∗ shmP d i Finset.univ q (shmC ids (i 0).val) ∗ shbP d i (shmC ids (i 0).val) ∗ dsem d i semCol)) := by
  iintro ⟨#Hmw, HO, Hs, ⟨%f, Hb⟩, Hm⟩
  unfold collect
  have C := copy_wp (F := F) d i (sem := semCol) (src := shmS) (dst := shbV) (hsrc := (Memref.isWhole_whole _).wordExact) (hdst := (Memref.isWhole_whole _).wordExact)
    (hsem := ⟨Or.inl rfl, trivial⟩) q (shmC ids (i 0).val) (shmC ids (i 0).val) (by decide) rfl
  have e : shbV.view.set = Finset.univ := View.set_whole _
  rw [e] at C
  iapply (twp_seq C) $$ [Hs Hb Hm]
  · isplitl [Hs]; · iexact Hs
    isplitl [Hb]; · iexists f; iexact Hb
    iexact Hm
  iintro %_ Hf
  iapply (twp_last (F := F) d i)
  iapply (twp_seq (wait_wp (F := F) d i O W rfl _)) $$ [$Hmw $Hf $HO]
  iintro %_ ⟨⟨Hb, Hs⟩, Hm, HO⟩
  iapply (twp_ret (F := F) d i _)
  isplitl [HO]; · iexact HO
  isplitl [Hs]; · iexact Hs
  isplitl [Hb] <;> iassumption

end Cert.Proof.Embed

end
-- ==== Proof.Own.lean ====
module

public import proofs.«01_k».proof.Proof.Stages

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (i : grid0.Coords) (ids : S4x8192.Idx → BitVec 32) (tab : S1024x128.Idx → F .f32)

/-! ## The groups' parts of the list and of the result -/

/-- The part of the result the tile on core `c`, subcore `s` writes. -/
def outW (c s : ℕ) : Finset S4x8192x128.Idx := Finset.univ.filter fun x => (x 0).val = 2 * c + s / 8 ∧ (x 1).val / 1024 = s % 8
theorem mem_outW {c s : ℕ} {x : S4x8192x128.Idx} : x ∈ outW c s ↔ (x 0).val = 2 * c + s / 8 ∧ (x 1).val / 1024 = s % 8 := by
  unfold outW; rw [Finset.mem_filter]; exact and_iff_right (Finset.mem_univ _)

theorem mem_out (g : Fin 10) {x : S4x8192x128.Idx} : x ∈ (outM i g).view.set ↔
    (x 0).val = 2 * (i 0).val + (i 1).val / 8 ∧ 1024 * ((i 1).val % 8) + gof g ≤ (x 1).val ∧ (x 1).val < 1024 * ((i 1).val % 8) + gof g + gsz g := by
  have hs : (outM i g).view.set = (Rect.unit (s := S4x8192x128) (offO i g) (SG1 g).size (inbO i g)).set := (View.set_reshape _ _).trans (View.set_slice_whole _ _)
  have h2 : (x 2).val < 128 := (x 2).isLt
  rw [hs, Rect.mem_set_unit, offO_eq]
  constructor
  · intro h
    have a0 : 2 * (i 0).val + (i 1).val / 8 ≤ (x 0).val ∧ (x 0).val < 2 * (i 0).val + (i 1).val / 8 + 1 := h 0
    have a1 : 1024 * ((i 1).val % 8) + gof g ≤ (x 1).val ∧ (x 1).val < 1024 * ((i 1).val % 8) + gof g + gsz g := h 1
    omega
  · intro h a
    match a with
    | 0 => exact (show 2 * (i 0).val + (i 1).val / 8 ≤ (x 0).val ∧ (x 0).val < 2 * (i 0).val + (i 1).val / 8 + 1 by omega)
    | 1 => exact (show 1024 * ((i 1).val % 8) + gof g ≤ (x 1).val ∧ (x 1).val < 1024 * ((i 1).val % 8) + gof g + gsz g by omega)
    | 2 => exact (show 0 ≤ (x 2).val ∧ (x 2).val < 0 + 128 by omega)

/-- The group an index of the chunk is in. -/
theorem group_exists : ∀ n : Fin 1024, ∃ g : Fin 10, gof g ≤ n.val ∧ n.val < gof g + gsz g := by decide +kernel
theorem groups_apart : ∀ g g' : Fin 10, g ≠ g' → gof g + gsz g ≤ gof g' ∨ gof g' + gsz g' ≤ gof g := by decide +kernel

theorem win_disj : ∀ g ∈ (Finset.univ : Finset (Fin 10)), ∀ g' ∈ (Finset.univ : Finset (Fin 10)), g ≠ g' →
    Disjoint (win (gof g) (gof g + gsz g)) (win (gof g') (gof g' + gsz g')) := by
  intro g _ g' _ h
  rw [Finset.disjoint_left]
  intro x h1 h2
  rw [mem_win] at h1 h2
  rcases groups_apart g g' h with h | h <;> omega
theorem win_cover : (Finset.univ : Finset (Fin 10)).biUnion (fun g => win (gof g) (gof g + gsz g)) = Finset.univ := by
  ext x
  refine ⟨fun _ => Finset.mem_univ _, fun _ => ?_⟩
  obtain ⟨g, hg⟩ := group_exists (x 0)
  exact Finset.mem_biUnion.mpr ⟨g, Finset.mem_univ _, mem_win.mpr hg⟩

theorem out_disj : ∀ g ∈ (Finset.univ : Finset (Fin 10)), ∀ g' ∈ (Finset.univ : Finset (Fin 10)), g ≠ g' → Disjoint (outM i g).view.set (outM i g').view.set := by
  intro g _ g' _ h
  rw [Finset.disjoint_left]
  intro x h1 h2
  rw [mem_out] at h1 h2
  rcases groups_apart g g' h with h | h <;> omega
theorem out_cover : (Finset.univ : Finset (Fin 10)).biUnion (fun g => (outM i g).view.set) = outW (i 0).val (i 1).val := by
  ext x
  have hx : (x 1).val < 8192 := (x 1).isLt
  rw [Finset.mem_biUnion, mem_outW]
  constructor
  · rintro ⟨g, -, h⟩
    rw [mem_out] at h
    have hg := gof_le g
    omega
  · intro h
    obtain ⟨g, hg⟩ := group_exists ⟨(x 1).val % 1024, Nat.mod_lt _ (by decide)⟩
    have hg : gof g ≤ (x 1).val % 1024 ∧ (x 1).val % 1024 < gof g + gsz g := hg
    refine ⟨g, Finset.mem_univ _, ?_⟩
    rw [mem_out]
    omega

/-- The list whole is its ten parts. -/
theorem pos_groups (f : S1024.Idx → BitVec 32) :
    posP (F := F) d i Finset.univ f = bigSep Finset.univ fun g : Fin 10 => posP d i (win (gof g) (gof g + gsz g)) f := by
  unfold posP
  rw [← pointsTo_biUnion Finset.univ (ℓ := posV.view.loc (vt d i)) (fun g : Fin 10 => win (gof g) (gof g + gsz g)) win_disj, win_cover]
/-- The tile's part of the result is its ten parts. -/
theorem out_groups (f : S4x8192x128.Idx → F .f32) :
    (outH.view.loc (vt d i) ↦[outW (i 0).val (i 1).val]{fullShare} f : sProp (Mod F)) = bigSep Finset.univ fun g : Fin 10 => outP d i g f := by
  unfold outP
  rw [← out_cover]
  exact pointsTo_biUnion Finset.univ (ℓ := outH.view.loc (vt d i)) (fun g : Fin 10 => (outM i g).view.set) (out_disj i)

/-! ## The slots -/

theorem fin6 {M : Type _} [URA M] (Φ : Fin 6 → sProp M) : bigSep Finset.univ Φ = iprop(Φ 0 ∗ Φ 1 ∗ Φ 2 ∗ Φ 3 ∗ Φ 4 ∗ Φ 5) := by
  rw [BI.bigSep_univ_eq_bigSepL [0, 1, 2, 3, 4, 5] (by decide) (by decide)]; rfl

theorem slots_eq : slots (F := F) d i = bigSep Finset.univ fun k : Fin 6 => ringP d i (slotW k.val 128) := by
  rw [fin6]; rfl

theorem slot_disj : ∀ k ∈ (Finset.univ : Finset (Fin 6)), ∀ k' ∈ (Finset.univ : Finset (Fin 6)), k ≠ k' → Disjoint (slotW k.val 128) (slotW k'.val 128) := by
  intro k _ k' _ h
  rw [Finset.disjoint_left]
  intro x h1 h2
  rw [mem_slotW] at h1 h2
  exact h (Fin.ext (h1.1.symm.trans h2.1))
theorem slot_cover : (Finset.univ : Finset (Fin 6)).biUnion (fun k => slotW k.val 128) = Finset.univ := by
  ext x
  refine ⟨fun _ => Finset.mem_univ _, fun _ => Finset.mem_biUnion.mpr ⟨x 0, Finset.mem_univ _, mem_slotW.mpr ⟨rfl, (x 1).isLt⟩⟩⟩

theorem slots_intro : (iprop(∃ f, rowsV.view.loc (vt d i) ↦{fullShare} f) : sProp (Mod F)) ⊢ slots d i := by
  rw [slots_eq]
  iintro ⟨%f, H⟩
  rw [← slot_cover]
  ihave H := (Entails.of_eq (pointsTo_biUnion Finset.univ (ℓ := rowsV.view.loc (vt d i)) (q := fullShare) (f := f) (fun k : Fin 6 => slotW k.val 128) slot_disj)) $$ H
  iapply (SparseCore.ent (bigSep_mono (Φ := fun k : Fin 6 => (rowsV.view.loc (vt d i) ↦[slotW k.val 128]{fullShare} f : sProp (Mod F)))
    (Ψ := fun k : Fin 6 => ringP (F := F) d i (slotW k.val 128)) fun k _ => BI.BIClass.exists_intro (Φ := fun f => (rowsV.view.loc (vt d i) ↦[slotW k.val 128]{fullShare} f : sProp (Mod F))) f))
  iexact H

theorem slots_elim : slots d i ⊢ (iprop(∃ f, rowsV.view.loc (vt d i) ↦{fullShare} f) : sProp (Mod F)) := by
  rw [slots_eq]
  haveI : Nonempty (S6x128x128.Idx → F .f32) := ⟨fun _ => Scalar.ofBits .f32 0#32⟩
  refine (bigSep_exists_pi Finset.univ (fun (k : Fin 6) (f : S6x128x128.Idx → F .f32) => (rowsV.view.loc (vt d i) ↦[slotW k.val 128]{fullShare} f : sProp (Mod F)))).trans ?_
  iintro ⟨%fs, H⟩
  ihave H' := (pointsTo_biUnion_join Finset.univ (ℓ := rowsV.view.loc (vt d i)) (q := fullShare) (fun k : Fin 6 => slotW k.val 128) fs (fs 0) slot_disj) $$ H
  icases H' with ⟨%g, -, Hg⟩
  rw [slot_cover]
  iexists g; iexact Hg

/-! ## What the tile has of its own -/

theorem fin8 {M : Type _} [URA M] (Φ : Fin 8 → sProp M) : bigSep Finset.univ Φ = iprop(Φ 0 ∗ Φ 1 ∗ Φ 2 ∗ Φ 3 ∗ Φ 4 ∗ Φ 5 ∗ Φ 6 ∗ Φ 7) := by
  rw [BI.bigSep_univ_eq_bigSepL [0, 1, 2, 3, 4, 5, 6, 7] (by decide) (by decide)]; rfl

/-- The tile's buffers. -/
def vref : Fin 8 → Ref sig .scVector := ![cc0_scratch0, cc0_scratch1, cc0_scratch2, cc0_scratch3, cc0_scratch4, cc0_scratch5, cc0_scratch6, cc0_scratch9]
theorem vref_inj : Function.Injective vref := by unfold vref; intro a b; revert a b; decide
theorem vref_owner (k : Fin 8) : ((Proc.scVector (cV i) (jV i)).devRef (vref k)).owner = .proc (.scVector (cV i) (jV i)) := by
  fin_cases k <;> rfl
abbrev vset : Finset (DevRef τ sig) := Finset.univ.image fun k => (Proc.scVector (cV i) (jV i)).devRef (vref k)
theorem vset_sub : vset i ⊆ ownRefs (τ := τ) (.scVector (cV i) (jV i)) := by
  intro b hb
  obtain ⟨k, -, rfl⟩ := Finset.mem_image.mp hb
  exact SparseCore.Cfg.mem_ownRefs_of_owner (p := Proc.scVector (cV i) (jV i)) (vref_owner i k)

/-- A buffer of the tile, at some contents. -/
abbrev anyBuf (b : DevRef τ sig) : sProp (Mod F) := iprop(∃ f, ((d, b) : Loc nD τ sig) ↦{fullShare} f)

/-- The tile's own buffers: the eight it uses, and the rest. -/
theorem ownBufs_eq : (ownBufs (vt d i) : sProp (Mod F)) = iprop(
    ((∃ f, idsV.view.loc (vt d i) ↦{fullShare} f) ∗ (∃ f, cmV.view.loc (vt d i) ↦{fullShare} f) ∗ (∃ f, omV.view.loc (vt d i) ↦{fullShare} f)
      ∗ (∃ f, posV.view.loc (vt d i) ↦{fullShare} f) ∗ (∃ f, tmpV.view.loc (vt d i) ↦{fullShare} f) ∗ (∃ f, shbV.view.loc (vt d i) ↦{fullShare} f)
      ∗ (∃ f, rowsV.view.loc (vt d i) ↦{fullShare} f) ∗ (∃ f, nanV.view.loc (vt d i) ↦{fullShare} f))
    ∗ bigSep (ownRefs (τ := τ) (.scVector (cV i) (jV i)) \ vset i) fun b => anyBuf d b) := by
  unfold SparseCore.Cfg.ownBufs
  rw [BI.bigSep_sdiff_split (vset_sub i), SparseCore.bigSep_image_of_injOn (f := fun k => (Proc.scVector (cV i) (jV i)).devRef (vref k)) (s := Finset.univ)
    (fun a _ b _ h => vref_inj (Proc.devRef_injective _ h)), fin8]
  rfl

/-- The tile's transfer counters. -/
abbrev dcell (s : DmaSem sig) : GSem nD τ sig := (vt d i, .dma s)
abbrev dset : Finset (GSem nD τ sig) := Finset.univ.image (dcell d i)
theorem dma_scoped : ∀ s : DmaSem sig, (SemLoc.dma s : SemLoc sig).isScoped .scVector = true := by decide
theorem dset_sub : dset d i ⊆ ownCells (vt d i) := by
  intro g hg
  obtain ⟨s, -, rfl⟩ := Finset.mem_image.mp hg
  exact mem_ownCells.mpr ⟨rfl, dma_scoped s⟩

theorem fin25 {M : Type _} [URA M] (Φ : Fin 25 → sProp M) : bigSep Finset.univ Φ = iprop(Φ 0 ∗ Φ 1 ∗ Φ 2 ∗ Φ 3 ∗ Φ 4 ∗ Φ 5 ∗ Φ 6 ∗ Φ 7 ∗ Φ 8 ∗ Φ 9
    ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24) := by
  rw [BI.bigSep_univ_eq_bigSepL [0, 1, 2, 3, 4, 5, 6, 7, 8, 9, 10, 11, 12, 13, 14, 15, 16, 17, 18, 19, 20, 21, 22, 23, 24] (by decide) (by decide)]; rfl

/-- The tile's own counters at zero: the transfers' twenty-five, and the rest. -/
theorem ownSems_eq : (ownSems0 (vt d i) : sProp (Mod F)) = iprop((bigSep Finset.univ fun s : Fin 25 => dsem d i s) ∗ bigSep (ownCells (vt d i) \ dset d i) fun g => semVal g 0) := by
  unfold SparseCore.Cfg.ownSems0
  rw [BI.bigSep_sdiff_split (dset_sub d i), SparseCore.bigSep_image_of_injOn (f := dcell d i) (s := Finset.univ) (fun a _ b _ h => by
    injection h with _ h; injection h)]
  rfl

/-- The counters by what the body uses them for. -/
theorem dsems_eq : (bigSep Finset.univ fun s : Fin 25 => dsem d i s : sProp (Mod F)) ⊣⊢ iprop(gsems d i ∗ ssems d i
    ∗ dsem d i semRows ∗ dsem d i semZero ∗ dsem d i semNan ∗ dsem d i semPre ∗ dsem d i semCur ∗ dsem d i semPub ∗ dsem d i semCol) := by
  rw [fin25]
  constructor
  · iintro ⟨H0, H1, H2, H3, H4, H5, H6, H7, H8, H9, H10, H11, H12, H13, H14, H15, H16, H17, H18, H19, H20, H21, H22, H23, H24⟩
    isplitl [H0 H1 H2 H3 H4 H5 H12 H13 H14]
    · isplitl [H12]; · iexact H12
      isplitl [H13]; · iexact H13
      isplitl [H14]; · iexact H14
      isplitl [H3]; · iexact H3
      isplitl [H4]; · iexact H4
      isplitl [H5]; · iexact H5
      isplitl [H0]; · iexact H0
      isplitl [H1]; · iexact H1
      iexact H2
    isplitl [H6 H7 H8 H9 H10 H11 H15 H16 H17]
    · isplitl [H15]; · iexact H15
      isplitl [H16]; · iexact H16
      isplitl [H17]; · iexact H17
      isplitl [H9]; · iexact H9
      isplitl [H10]; · iexact H10
      isplitl [H11]; · iexact H11
      isplitl [H6]; · iexact H6
      isplitl [H7]; · iexact H7
      iexact H8
    isplitl [H18]; · iexact H18
    isplitl [H21]; · iexact H21
    isplitl [H22]; · iexact H22
    isplitl [H19]; · iexact H19
    isplitl [H20]; · iexact H20
    isplitl [H23]; · iexact H23
    iexact H24
  · iintro ⟨⟨H12, H13, H14, H3, H4, H5, H0, H1, H2⟩, ⟨H15, H16, H17, H9, H10, H11, H6, H7, H8⟩, H18, H21, H22, H19, H20, H23, H24⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24

end Cert.Proof.Embed

end
-- ==== Proof.Barrier.lean ====
module

public import proofs.«01_k».proof.Proof.Own

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable (m : (ℓ : Loc nD τ sig) → Buf (Elt F) ℓ) (ρ : Dev nD → PrngReg)

/-! ## The arrays of the launch -/

abbrev idsLoc (d : Dev nD) : Loc nD τ sig := (SparseCore.T d).loc main_arg0
abbrev tabLoc (d : Dev nD) : Loc nD τ sig := (SparseCore.T d).loc main_arg1
abbrev outLoc (d : Dev nD) : Loc nD τ sig := (SparseCore.T d).loc main_v0
/-- SparseCore `c`'s shared maxima and shared table. -/
abbrev shmRef (c : Fin τ.nSC) : DevRef τ sig := ⟨.shared, ⟨0, by decide⟩, c⟩
abbrev shtRef (c : Fin τ.nSC) : DevRef τ sig := ⟨.shared, ⟨1, by decide⟩, c⟩
abbrev shmLoc (d : Dev nD) (c : Fin τ.nSC) : Loc nD τ sig := (d, shmRef c)
abbrev shtLoc (d : Dev nD) (c : Fin τ.nSC) : Loc nD τ sig := (d, shtRef c)

/-- The two arguments as the launch has them. -/
abbrev idsM (d : Dev nD) : S4x8192.Idx → BitVec 32 := m (idsLoc d)
abbrev tabM (d : Dev nD) : S1024x128.Idx → F .f32 := m (tabLoc d)

/-- Tile `j`'s share of an array its SparseCore's tiles all read; group `g`'s part of it. -/
def sh16 (j : Fin 16) : PosShare TreeShare := pieceOf fullShare 16 (by decide) j
def sh160 (j : Fin 16) (g : Fin 10) : PosShare TreeShare := pieceOf (sh16 j) 10 (by decide) g
/-- SparseCore `c`'s share of an array of the launch's, and tile `j`'s of it. -/
def sh2 (c : Fin 2) : PosShare TreeShare := pieceOf fullShare 2 (by decide) c
def sh32 (c : Fin 2) (j : Fin 16) : PosShare TreeShare := pieceOf (sh2 c) 16 (by decide) j

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

/-- Whether a semaphore is a tile's barrier semaphore. -/
def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile `n`'s row of the shared maxima and its part of the shared table, both filled, at a share. -/
abbrev given (d : Dev nD) (c : Fin τ.nSC) (n : ℕ) (q : PosShare TreeShare) : sProp (Mod F) :=
  iprop((shmLoc d c ↦[shmOwn n]{q} shmC (idsM m d) c.val) ∗ shtLoc d c ↦[shtOwn n]{q} shtC (tabM m d))

/-- What tile `n`'s duty in tile `j`'s round hands over: tile `j`'s share of what tile `n` filled. -/
def bPay (g : GSem nD τ sig) (n : ℕ) : sProp (Mod F) :=
  match g with
  | ((d, .scVector c j), _) => given m d c n (sh16 (Fin.cast rfl j))
  | _ => iprop(emp)

/-- The barrier cells' schedule: one round on each, of one unit duty per tile of the SparseCore. -/
def bRd : Rounds.Schedule (GSem nD τ sig) ℕ (Mod F) where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ (Mod F)) ((bRd m).payload g r n) := by
  show BI.Storable upEmb (bPay m g n)
  unfold bPay
  rcases g with ⟨⟨d, _ | c | ⟨c, i⟩⟩, sm⟩ <;> dsimp only <;> infer_instance

omit [FloatOps F] in
theorem bigSep_emp' {I : Type} (s : Finset I) : (bigSep s fun _ => iprop(emp)) = (iprop(emp) : sProp (Mod F)) := bigSep_emp_const s

theorem bRd_duties₀ (d : Dev nD) (c : Fin τ.nSC) (j : Fin τ.nSub) : (bRd m).duties (bcell d c j) 0 = (Finset.univ : Finset (Fin τ.nSub)).image Fin.val := by
  simp [bRd, isBar]
theorem bRd_duties_succ (g : GSem nD τ sig) (r : ℕ) (hr : 1 ≤ r) : (bRd m).duties g r = ∅ :=
  if_neg fun h => absurd h.2 (Nat.ne_of_gt hr)
theorem bRd_mem₀ (d : Dev nD) (c : Fin τ.nSC) (j i : Fin τ.nSub) : i.val ∈ (bRd m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What a tile owes for the barrier: a unit on every tile's cell of its SparseCore. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: the cells' invariants, its tokens, that each cell has reached round 0, its own position,
    and the credit for the sixteen units of its own round. -/
def bkit (d : Dev nD) (c : Fin τ.nSC) (i : Fin τ.nSub) : sProp (Mod F) :=
  iprop((∃ κ : GSem nD τ sig → ℕ, bigSep Finset.univ fun j : Fin (grid0.bound 1) =>
      cellInv EB (bRd m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-- A part of the shared maxima at sixteen shares at once; likewise of the shared table. -/
theorem shm_pieces (d : Dev nD) (c : Fin τ.nSC) (I : Finset S2x8x16.Idx) (f : S2x8x16.Idx → BitVec 32) :
    (shmLoc d c ↦[I]{fullShare} f : sProp (Mod F)) = bigSep Finset.univ fun j : Fin 16 => (shmLoc d c ↦[I]{sh16 j} f : sProp (Mod F)) := by
  have h := pointsTo_piecesOf (Ix := HIx 1) (Name := ℕ) (U := UU) (Lvl := ℕ) (Val := Elt F) (ℓ := shmLoc d c) I f (o := 16) (by decide) fullShare
  exact h
theorem sht_pieces (d : Dev nD) (c : Fin τ.nSC) (I : Finset S1041x128.Idx) (f : S1041x128.Idx → F .f32) :
    (shtLoc d c ↦[I]{fullShare} f : sProp (Mod F)) = bigSep Finset.univ fun j : Fin 16 => (shtLoc d c ↦[I]{sh16 j} f : sProp (Mod F)) := by
  have h := pointsTo_piecesOf (Ix := HIx 1) (Name := ℕ) (U := UU) (Lvl := ℕ) (Val := Elt F) (ℓ := shtLoc d c) I f (o := 16) (by decide) fullShare
  exact h

/-- Filled by the tile, its parts go to the sixteen rounds, a share to each. -/
theorem pays_intro (d : Dev nD) (i : grid0.Coords) : given m d (cV i) (i 1).val fullShare
    ⊢ (bigSep Finset.univ fun j : Fin (grid0.bound 1) => (bRd m).payload (bcell d (cV i) (j.castLE hsub0)) 0 (jV i).val : sProp (Mod F)) := by
  unfold given
  rw [shm_pieces, sht_pieces, ← bigSep_sep']
  exact Entails.of_eq rfl

theorem own_disj_shm : ∀ n ∈ (Finset.univ : Finset (Fin 16)), ∀ n' ∈ (Finset.univ : Finset (Fin 16)), n ≠ n' → Disjoint (shmOwn n.val) (shmOwn n'.val) := by
  intro n _ n' _ h
  rw [Finset.disjoint_left]
  intro x h1 h2
  rw [mem_shmOwn] at h1 h2
  exact h (Fin.ext (h1.symm.trans h2))
theorem own_disj_sht : ∀ n ∈ (Finset.univ : Finset (Fin 16)), ∀ n' ∈ (Finset.univ : Finset (Fin 16)), n ≠ n' → Disjoint (shtOwn n.val) (shtOwn n'.val) := by
  intro n _ n' _ h
  rw [Finset.disjoint_left]
  intro x h1 h2
  rw [mem_shtOwn] at h1 h2
  exact h (Fin.ext (h1.symm.trans h2))
theorem own_cover_shm : (Finset.univ : Finset (Fin 16)).biUnion (fun n => shmOwn n.val) = Finset.univ := by
  ext x
  have h0 : (x 0).val < 2 := (x 0).isLt
  have h1 : (x 1).val < 8 := (x 1).isLt
  exact ⟨fun _ => Finset.mem_univ _, fun _ => Finset.mem_biUnion.mpr ⟨⟨8 * (x 0).val + (x 1).val, by omega⟩, Finset.mem_univ _, mem_shmOwn.mpr rfl⟩⟩
theorem own_cover_sht : (Finset.univ : Finset (Fin 16)).biUnion (fun n => shtOwn n.val) = Finset.univ := by
  ext x
  have h0 : (x 0).val < 1041 := (x 0).isLt
  have h : owner (x 0).val < 16 := by unfold owner; split <;> (try split) <;> omega
  exact ⟨fun _ => Finset.mem_univ _, fun _ => Finset.mem_biUnion.mpr ⟨⟨owner (x 0).val, h⟩, Finset.mem_univ _, mem_shtOwn.mpr rfl⟩⟩

/-- What the tile's own round collected is a share of both arrays whole. -/
theorem pays_elim (d : Dev nD) (i : grid0.Coords) : (bigSep ((bRd m).duties (bcell d (cV i) (jV i)) 0 \ ∅) fun n => (bRd m).payload (bcell d (cV i) (jV i)) 0 n)
    ⊢ (iprop((shmLoc d (cV i) ↦{sh16 (i 1)} shmC (idsM m d) (i 0).val) ∗ shtLoc d (cV i) ↦{sh16 (i 1)} shtC (tabM m d)) : sProp (Mod F)) := by
  rw [Finset.sdiff_empty, bRd_duties₀, SparseCore.bigSep_image_of_injOn (fun a _ b _ h => Fin.val_injective h)]
  show (bigSep Finset.univ fun n : Fin 16 => given m d (cV i) n.val (sh16 (i 1))) ⊢ _
  unfold given
  rw [bigSep_sep', ← pointsTo_biUnion Finset.univ (ℓ := shmLoc d (cV i)) (fun n : Fin 16 => shmOwn n.val) own_disj_shm, own_cover_shm,
    ← pointsTo_biUnion Finset.univ (ℓ := shtLoc d (cV i)) (fun n : Fin 16 => shtOwn n.val) own_disj_sht, own_cover_sht]
  exact Entails.of_eq rfl

/-! ## What the handshakes carry -/

/-- The part of the result SparseCore `c` writes. -/
def outC (c : ℕ) : Finset S4x8192x128.Idx := Finset.univ.filter fun x => (x 0).val / 2 = c
theorem mem_outC {c : ℕ} {x : S4x8192x128.Idx} : x ∈ outC c ↔ (x 0).val / 2 = c := by
  unfold outC; rw [Finset.mem_filter]; exact and_iff_right (Finset.mem_univ _)

/-- The result as the kernel leaves it. -/
abbrev outM' (d : Dev nD) : S4x8192x128.Idx → F .f32 := outF (idsM m d) (tabM m d)

/-- The barrier semaphores of the tiles of SparseCore `c`, at zero. -/
abbrev bars (d : Dev nD) (c : Fin τ.nSC) : sProp (Mod F) :=
  bigSep Finset.univ fun i : Fin 16 => semVal (bcell d c (Fin.cast rfl i)) 0

/-- A SparseCore's part at the call: its shares of the two arguments, its half of the result. -/
abbrev coreIn (d : Dev nD) (c : Fin 2) (f : S4x8192x128.Idx → F .f32) : sProp (Mod F) :=
  iprop((idsLoc d ↦{sh2 c} m (idsLoc d)) ∗ (tabLoc d ↦{sh2 c} m (tabLoc d)) ∗ outLoc d ↦[outC c.val]{fullShare} f)
/-- A tile's part of that. -/
abbrev tileIn (d : Dev nD) (c : Fin 2) (j : Fin 16) (f : S4x8192x128.Idx → F .f32) : sProp (Mod F) :=
  iprop((idsLoc d ↦{sh32 c j} m (idsLoc d)) ∗ (tabLoc d ↦{sh32 c j} m (tabLoc d)) ∗ outLoc d ↦[outW c.val j.val]{fullShare} f)
/-- A tile's parts of the two shared arrays, at some contents. -/
abbrev sharedIn (d : Dev nD) (c : Fin τ.nSC) (j : ℕ) : sProp (Mod F) :=
  iprop((∃ f, shmLoc d c ↦[shmOwn j]{fullShare} f) ∗ ∃ f, shtLoc d c ↦[shtOwn j]{fullShare} f)
/-- A tile's shares of the two shared arrays, filled. -/
abbrev sharedOut (d : Dev nD) (c : Fin τ.nSC) (j : Fin 16) : sProp (Mod F) :=
  iprop((shmLoc d c ↦{sh16 j} shmC (idsM m d) c.val) ∗ shtLoc d c ↦{sh16 j} shtC (tabM m d))

set_option backward.proofsInPublic true in
/-- The one call: each SparseCore takes shares of the arguments and its half of the result; each tile shares of those, its
    part of the result and its parts of the two shared arrays, and brings back its part of the result filled and its
    shares of the shared arrays; each tile's proof consumes its barrier kit and owes its arrivals. -/
def P : (K (F := F)).Pay (nD := nD) (Val := Elt F) (Name := ℕ) (U := UU) where
  st := fun q d c => match q with | 0 => coreIn m d (Fin.cast nCore_zero c) (m (outLoc d))
  dn := fun q d c => match q with | 0 => iprop(coreIn m d (Fin.cast nCore_zero c) (outM' m d) ∗ bars d (coreOf c))
  go := fun q d c i => match q with
    | 0 => iprop(tileIn m d (Fin.cast nCore_zero c) (Fin.cast nSub_zero i) (m (outLoc d)) ∗ sharedIn d (coreOf c) i.val)
  td := fun q d c i => match q with
    | 0 => iprop((tileIn m d (Fin.cast nCore_zero c) (Fin.cast nSub_zero i) (outM' m d) ∗ sharedOut m d (coreOf c) (Fin.cast nSub_zero i))
        ∗ semVal (bcell d (coreOf c) ((K (F := F)).sub 0 i)) 0)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨j, rfl, rfl⟩ := oxV_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P m).IsStorable where
  st q d c := match q with
    | 0 => (inferInstance : BI.Storable (upEmb : UEmb _ (Mod F)) (coreIn m d (Fin.cast nCore_zero c) (m (outLoc d))))
  dn q d c := match q with
    | 0 => (inferInstance : BI.Storable (upEmb : UEmb _ (Mod F)) iprop(coreIn m d (Fin.cast nCore_zero c) (outM' m d) ∗ bars d (coreOf c)))
  go q d c i := match q with
    | 0 => (inferInstance : BI.Storable (upEmb : UEmb _ (Mod F))
      iprop(tileIn m d (Fin.cast nCore_zero c) (Fin.cast nSub_zero i) (m (outLoc d)) ∗ sharedIn d (coreOf c) i.val))
  td q d c i := match q with
    | 0 => (inferInstance : BI.Storable (upEmb : UEmb _ (Mod F))
      iprop((tileIn m d (Fin.cast nCore_zero c) (Fin.cast nSub_zero i) (outM' m d) ∗ sharedOut m d (coreOf c) (Fin.cast nSub_zero i)) ∗ semVal _ 0))

end Cert.Proof.Embed

end
-- ==== Proof.BodyEq.lean ====
module

public import proofs.«01_k».proof.Proof.Body

@[expose] public section

set_option maxRecDepth 100000
set_option maxHeartbeats 0

noncomputable section

namespace Cert.Proof.Embed

open Cert.KernelIdeal Cert.KernelIdeal.Gen
open Idealize.ShloMosaic Idealize.SL.Sem

variable {F : FTy → Type} [FloatOps F]

/-- Two programs beginning with one effect are equal when what follows is. -/
theorem op_congr {E : Type → Type} {α β : Type} {e : E β} {k k' : β → Prog E α} (h : ∀ x, k x = k' x) : Prog.op e k = Prog.op e k' :=
  congrArg (Prog.op e) (funext h)

/-- A choice ahead of two continuations is a choice ahead of one, when each side is. -/
theorem choice_bind {E : Type → Type} {α β γ δ : Type} {c : Prop} {inst : Decidable c} {t : c → Prog E α} {e : ¬ c → Prog E α}
    {k₂ : α → Prog E β} {k₃ : β → Prog E γ} {t' : c → Prog E δ} {e' : ¬ c → Prog E δ} {k' : δ → Prog E γ}
    (h1 : ∀ h : c, ((t h).bind k₂).bind k₃ = (t' h).bind k') (h2 : ∀ h : ¬ c, ((e h).bind k₂).bind k₃ = (e' h).bind k') :
    ((Decidable.rec (motive := fun _ => Prog E α) e t inst).bind k₂).bind k₃ = (Decidable.rec (motive := fun _ => Prog E δ) e' t' inst).bind k' := by
  cases inst with
  | isTrue h => exact h1 h
  | isFalse h => exact h2 h

/-- The printed body is the body with its repeated groups as loops. -/
theorem printed_eq (i : grid0.Coords) : (printed i : TP F i PUnit) = body i := by
  refine op_congr fun _ => op_congr fun _ => ?_
  conv => lhs; whnf
  conv => rhs; whnf
  refine choice_bind (fun h => ?_) (fun h => ?_)
  · repeat refine op_congr fun _ => ?_
    rfl
  · repeat refine op_congr fun _ => ?_
    rfl

end Cert.Proof.Embed

end
-- ==== Proof.Tile.lean ====
module

public import proofs.«01_k».proof.Proof.Barrier
public import proofs.«01_k».proof.Proof.BodyEq

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ) (ρ : Dev nD → PrngReg) (d : Dev nD) (i : grid0.Coords)

/-- An array held at a share is held at the share's two halves at once. -/
theorem ids_halves (q : PosShare TreeShare) (f : S4x8192.Idx → BitVec 32) : idsQ (F := F) d i f q ⊣⊢ iprop(idsQ d i f q.left ∗ idsQ d i f q.right) :=
  pointsTo_share (PosShare.mem_left_op_right q)
theorem tab_halves (q : PosShare TreeShare) (f : S1024x128.Idx → F .f32) : tabQ (F := F) d i f q ⊣⊢ iprop(tabQ d i f q.left ∗ tabQ d i f q.right) :=
  pointsTo_share (PosShare.mem_left_op_right q)

/-- A tile's share of the shared table is its groups' ten. -/
theorem sht_groups (f : S1024x128.Idx → F .f32) : (shtQ d i f (sh16 (i 1)) : sProp (Mod F)) = bigSep Finset.univ fun g : Fin 10 => shtQ d i f (sh160 (i 1) g) := by
  have h := pointsTo_piecesOf (Ix := HIx 1) (Name := ℕ) (U := UU) (Lvl := ℕ) (Val := Elt F) (ℓ := shtS.view.loc (vt d i)) Finset.univ (shtC f) (o := 10) (by decide) (sh16 (i 1))
  exact h

theorem sht_in (f : S1041x128.Idx → F .f32) : (shtLoc d (cV i) ↦[shtOwn (i 1).val]{fullShare} f : sProp (Mod F))
    ⊢ iprop(shtP d i (shtRowsM i).view.set fullShare f ∗ shtP d i (shtZeroM i).view.set fullShare f ∗ shtP d i (nanW i) fullShare f) :=
  Entails.of_eq (sht_split (F := F) d i fullShare f)

theorem group_in (tab : S1024x128.Idx → F .f32) (fp : S1024.Idx → BitVec 32) (fo : S4x8192x128.Idx → F .f32) (g : Fin 10) :
    iprop(posP d i (win (gof g) (gof g + gsz g)) fp ∗ shtQ d i tab (sh160 (i 1) g) ∗ outP d i g fo) ⊢ (InG d i tab (sh160 (i 1) g) g : sProp (Mod F)) := by
  iintro ⟨Hp, Hs, Ho⟩
  isplitl [Hp]; · iexists _; iexact Hp
  isplitl [Hs]; · iexact Hs
  iexists _; iexact Ho

/-- What the groups start from: the list's parts, the shares of the shared table, the result's parts. -/
theorem groups_in (tab : S1024x128.Idx → F .f32) (fp : S1024.Idx → BitVec 32) (fo : S4x8192x128.Idx → F .f32) :
    iprop(posP d i Finset.univ fp ∗ shtQ d i tab (sh16 (i 1)) ∗ outH.view.loc (vt d i) ↦[outW (i 0).val (i 1).val]{fullShare} fo)
      ⊢ (bigSep Finset.univ fun g => InG d i tab (sh160 (i 1) g) g : sProp (Mod F)) := by
  rw [pos_groups, sht_groups, out_groups, ← bigSep_sep', ← bigSep_sep']
  exact bigSep_mono fun g _ => group_in d i tab fp fo g
/-- What the groups leave. -/
theorem groups_out (ids : S4x8192.Idx → BitVec 32) (tab : S1024x128.Idx → F .f32) : (bigSep Finset.univ fun g => OutG d i ids tab (sh160 (i 1) g) g : sProp (Mod F))
    ⊢ iprop(posP d i Finset.univ (posC ids i) ∗ shtQ d i tab (sh16 (i 1)) ∗ outH.view.loc (vt d i) ↦[outW (i 0).val (i 1).val]{fullShare} outF ids tab) := by
  rw [pos_groups, sht_groups, out_groups, ← bigSep_sep', ← bigSep_sep']

/-- The first pass over the chunk, whole. -/
theorem passA_wp (ids : S4x8192.Idx → BitVec 32) :
    iprop(idsP d i (idsC ids i) ∗ (∃ f, cmP d i f) ∗ ∃ f, omP d i f)
      ⊢ twp (F := F) d i (chainA i 64 0 (by decide) 0#32) (fun c => iprop(⌜c = carryF ids i 64⌝ ∗ idsP d i (idsC ids i) ∗ cmP d i (cmC ids i) ∗ omP d i (omC ids i))) := by
  iintro ⟨Hi, ⟨%f, Hc⟩, ⟨%g, Ho⟩⟩
  have h := chainA_wp (F := F) d i ids f g 64 0 (by decide)
  have e : carryF ids i 0 = 0#32 := rfl
  rw [e, pre_zero, pre_zero] at h
  simp only [Nat.zero_add, pre_all] at h
  iapply h
  isplitl [Hi]; · iexact Hi
  isplitl [Hc] <;> iassumption
/-- The maxima of the chunks before this one, whole. -/
theorem passC_wp (ids : S4x8192.Idx → BitVec 32) :
    shbP d i (shmC ids (i 0).val) ⊢ twp (F := F) d i (chainC i 7 0 (by decide) 0#32) (fun c => iprop(⌜c = cinF ids i 7⌝ ∗ shbP d i (shmC ids (i 0).val))) := by
  have h := chainC_wp (F := F) d i ids 7 0 (by decide)
  have e : cinF ids i 0 = 0#32 := rfl
  rw [e] at h
  simp only [Nat.zero_add] at h
  exact h

set_option maxHeartbeats 400000 in
/-- The task on the tile at `i`: the shared table's rows and the chunk's ids fetched, the chunk scanned, its maximum
    published; the barrier; the chunks' maxima collected, the rows gathered and stored. -/
theorem tile_body (hp : PosOK i (idsM m d)) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV i) (jV i) ∗ (tileIn m d (i 0) (i 1) (m (outLoc d)) ∗ sharedIn d (cV i) (i 1).val)
        ∗ scopedBufs (vt d i) ∗ scopedSems0 (vt d i) ∗ owes (vt d i) (O + oxV d (cV i)) W)
      ⊢ twp (F := F) d i (printed i) fun _ => iprop(((tileIn m d (i 0) (i 1) (outM' m d) ∗ sharedOut m d (cV i) (i 1)) ∗ semVal (bcell d (cV i) (jV i)) 0)
            ∗ scopedBufs (vt d i) ∗ scopedSems0 (vt d i)
            ∗ ∃ W', ⌜∀ p ∈ W', p ∈ W ∨ p.2 = none ∨ p.2 = some (0 : Fin 1)⌝ ∗ owes (vt d i) O W') := by
  rw [printed_eq]
  rw [(K (F := F)).scopedBufs_V kfacts d (cV i) (jV i), SparseCore.Cfg.scopedSems0_V (Val := Elt F) d (cV i) (jV i), ownSems_eq, ownBufs_eq]
  unfold bkit
  iintro ⟨#Hlv, ⟨⟨%κ, #Hinv⟩, Htoks, #Hrch, Hat, Hcred⟩, ⟨⟨Hids, Htab, Hout⟩, Hshm, Hsht⟩,
    ⟨⟨Hb0, Hb1, Hb2, ⟨%fpos, Hb3⟩, Hb4, Hb5, Hb6, Hb7⟩, Hbufs⟩, ⟨Hds, Hsems⟩, HO⟩
  have hO' : ∀ g, (O + oxV d (cV i)) g none = 0 := fun g => by rw [Pi.add_apply, Finsupp.add_apply, hO g, oxV_none]
  ihave Hmw1 := (show levAts (K (F := F)).L (K (F := F)).lev ⊢ MW d i (O + oxV d (cV i)) from (K (F := F)).mayWaits_none (thr := vt d i) hO') $$ Hlv
  ihave Hmw2 := (show levAts (K (F := F)).L (K (F := F)).lev ⊢ MW d i O from (K (F := F)).mayWaits_none (thr := vt d i) hO) $$ Hlv
  icases Hmw1 with #Hmw1
  icases Hmw2 with #Hmw2
  ihave Hds' := (dsems_eq (F := F) d i).1 $$ Hds
  icases Hds' with ⟨Hg, Hs, Hm1, Hm2, Hm3, Hm4, Hm5, Hm6, Hm7⟩
  ihave Hids' := (ids_halves d i (sh32 (i 0) (i 1)) (idsM m d)).1 $$ Hids
  icases Hids' with ⟨Hi1, Hi2⟩
  ihave Htab' := (tab_halves d i (sh32 (i 0) (i 1)) (tabM m d)).1 $$ Htab
  icases Htab' with ⟨Ht1, Ht2⟩
  icases Hsht with ⟨%fsht, Hsht⟩
  ihave Hsht' := (sht_in d i fsht) $$ Hsht
  icases Hsht' with ⟨Hs1, Hs2, Hs3⟩
  ihave HO := (show (owes (vt d i) (O + oxV d (cV i)) W : sProp (Mod F)) ⊢ OW d i (O + oxV d (cV i)) W from by
    unfold OW
    iintro H; iexists W; isplitr; · ipureintro; exact fun p hp => .inl hp
    iexact H) $$ HO
  unfold body
  iapply (twp_seq (begin_wp (F := F) d i (idsM m d) (tabM m d) (O + oxV d (cV i)) W (sh32 (i 0) (i 1)).left (sh32 (i 0) (i 1)).right
    (sh32 (i 0) (i 1)).left (sh32 (i 0) (i 1)).right)) $$ [HO Ht1 Ht2 Hi1 Hi2 Hs1 Hs2 Hs3 Hb7 Hb0 Hm1 Hm2 Hm3 Hm4 Hm5]
  · isplitr; · iexact Hmw1
    isplitl [HO]; · iexact HO
    isplitl [Ht1]; · iexact Ht1
    isplitl [Ht2]; · iexact Ht2
    isplitl [Hi1]; · iexact Hi1
    isplitl [Hi2]; · iexact Hi2
    isplitl [Hs1]; · iexists _; iexact Hs1
    isplitl [Hs2]; · iexists _; iexact Hs2
    isplitl [Hs3]; · iexists _; iexact Hs3
    isplitl [Hb7]; · iexact Hb7
    isplitl [Hb0]; · iexact Hb0
    isplitl [Hm1]; · iexact Hm1
    isplitl [Hm2]; · iexact Hm2
    isplitl [Hm3]; · iexact Hm3
    isplitl [Hm4] <;> iassumption
  iintro %_ ⟨HO, Hf1, Hf2, Hi1, Hi2, Hs3, Hb7, Hb0, Hm3, Hm4, Hm5⟩
  iapply (twp_seq (passA_wp (F := F) d i (idsM m d))) $$ [Hb0 Hb1 Hb2]
  · isplitl [Hb0]; · iexact Hb0
    isplitl [Hb1] <;> iassumption
  iintro %c ⟨%hc, Hb0, Hb1, Hb2⟩
  rw [hc]
  iapply (twp_seq (publish_wp (F := F) d i (idsM m d) (tabM m d) (O + oxV d (cV i)) W (sh32 (i 0) (i 1)).left (sh32 (i 0) (i 1)).right)) $$ [HO Hf1 Hf2 Hb4 Hshm Hm6 Hs3]
  · isplitr; · iexact Hmw1
    isplitl [HO]; · iexact HO
    isplitl [Hf1]; · iexact Hf1
    isplitl [Hf2]; · iexact Hf2
    isplitl [Hb4]; · iexact Hb4
    isplitl [Hshm]; · iexact Hshm
    isplitl [Hm6] <;> iassumption
  iintro %_ ⟨HO, Ht1, Ht2, Hb4, Hshm, Hsht, Hm6, Hm1, Hm2⟩
  -- the barrier: the tile's parts handed over, shares of the whole arrays received
  ihave Hpays := (pays_intro m d i) $$ [Hshm Hsht]
  · isplitl [Hshm]; · iexact Hshm
    iexact Hsht
  unfold OW
  icases HO with ⟨%W₁, %hW₁, HO⟩
  unfold twp
  iapply (SparseCore.wp_subcoreBarrier 𝒱₀ none EB (bRd m) d (sc := cV i) (i := jV i) sc_bar0 (grid0.bound 1) hsub0 (i 1) rfl κ (fun _ => 0) (jV i).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := vt d i) 3 (fun p hp => by
        rw [Finset.mem_singleton] at hp; subst hp
        show (K (F := F)).lev (bcell d (cV i) (jV i)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd m) (g := bcell d (cV i) (jV i)) (Set.mem_univ (κ _)) (fun h => h) (bRd_duties_succ m _)) $$ [Hat] with Hbar
  · isplitr
    · iapply (SparseCore.ent (bigSep_elim (Φ := fun j : Fin (grid0.bound 1) =>
        (cellInv EB (bRd m) (κ (bcell d (cV i) (j.castLE hsub0))) (bcell d (cV i) (j.castLE hsub0)) : sProp (Mod F))) (Finset.mem_univ (i 1)))); iexact Hinv
    · iexact Hat
  ihave Hwhole := (pays_elim m d i) $$ Hgot
  icases Hwhole with ⟨Hshm, Hsht⟩
  ihave HO := (show (owes (vt d i) O (insert (SemLoc.reg sc_bar0, (some 0 : HIx 1)) W₁) : sProp (Mod F)) ⊢ OW d i O W from by
    unfold OW
    iintro H; iexists _; isplitr
    swap; · iexact H
    ipureintro; intro p hp
    rcases Finset.mem_insert.mp hp with hp | hp; · exact .inr (.inr (hp ▸ rfl))
    exact hW₁ p hp) $$ HO
  -- the collected maxima, the running start, the ring
  iapply (twp_seq (collect_wp (F := F) d i (idsM m d) O W (sh16 (i 1)))) $$ [HO Hshm Hb5 Hm7]
  · isplitr; · iexact Hmw2
    isplitl [HO]; · iexact HO
    isplitl [Hshm]; · iexact Hshm
    isplitl [Hb5] <;> iassumption
  iintro %_ ⟨HO, Hshm, Hb5, Hm7⟩
  iapply (twp_seq (passC_wp (F := F) d i (idsM m d))) $$ [Hb5]
  · iexact Hb5
  iintro %c ⟨%hc, Hb5⟩
  rw [hc]
  ihave Hin := (groups_in d i (tabM m d) fpos (m (outLoc d))) $$ [Hb3 Hsht Hout]
  · isplitl [Hb3]; · iexact Hb3
    isplitl [Hsht]; · iexact Hsht
    iexact Hout
  ihave Hslots := (slots_intro (F := F) d i) $$ Hb6
  iapply (twp_last (F := F) d i)
  iapply (twp_seq (ring_wp (F := F) d i (idsM m d) (tabM m d) hp O W (sh160 (i 1)))) $$ [HO Hb1 Hb2 Hin Hslots Hg Hs]
  · isplitr; · iexact Hmw2
    isplitl [HO]; · iexact HO
    isplitl [Hb1 Hb2]; · isplitl [Hb1] <;> iassumption
    isplitl [Hin]; · iexact Hin
    isplitl [Hslots]; · iexact Hslots
    isplitl [Hg] <;> iassumption
  iintro %_ ⟨HO, ⟨Hb1, Hb2⟩, Hgr, Hslots, Hg, Hs⟩
  ihave Hgr' := (groups_out d i (idsM m d) (tabM m d)) $$ Hgr
  icases Hgr' with ⟨Hb3, Hsht, Hout⟩
  ihave Hb6 := (slots_elim (F := F) d i) $$ Hslots
  ihave Hids := (ids_halves d i (sh32 (i 0) (i 1)) (idsM m d)).2 $$ [Hi1 Hi2]
  · isplitl [Hi1] <;> iassumption
  ihave Htab := (tab_halves d i (sh32 (i 0) (i 1)) (tabM m d)).2 $$ [Ht1 Ht2]
  · isplitl [Ht1] <;> iassumption
  ihave Hds := (dsems_eq (F := F) d i).2 $$ [Hg Hs Hm1 Hm2 Hm3 Hm4 Hm5 Hm6 Hm7]
  · isplitl [Hg]; · iexact Hg
    isplitl [Hs]; · iexact Hs
    isplitl [Hm1]; · iexact Hm1
    isplitl [Hm2]; · iexact Hm2
    isplitl [Hm3]; · iexact Hm3
    isplitl [Hm4]; · iexact Hm4
    isplitl [Hm5]; · iexact Hm5
    isplitl [Hm6] <;> iassumption
  iapply (twp_ret (F := F) d i _)
  isplitl [Hids Htab Hout Hshm Hsht Hbar]
  · isplitr [Hbar]; swap; · iexact Hbar
    isplitl [Hids Htab Hout]
    · isplitl [Hids]; · iexact Hids
      isplitl [Htab]; · iexact Htab
      iexact Hout
    isplitl [Hshm]; · iexact Hshm
    iexact Hsht
  isplitl [Hb0 Hb1 Hb2 Hb3 Hb4 Hb5 Hb6 Hb7 Hbufs]
  · isplitr [Hbufs]; swap; · iexact Hbufs
    isplitl [Hb0]; · iexists _; iexact Hb0
    isplitl [Hb1]; · iexists _; iexact Hb1
    isplitl [Hb2]; · iexists _; iexact Hb2
    isplitl [Hb3]; · iexists _; iexact Hb3
    isplitl [Hb4]; · iexact Hb4
    isplitl [Hb5]; · iexists _; iexact Hb5
    isplitl [Hb6]; · iexact Hb6
    iexact Hb7
  isplitl [Hds Hsems]
  · isplitl [Hds]; · iexact Hds
    iexact Hsems
  unfold OW
  iexact HO

end Cert.Proof.Embed

end
-- ==== Proof.Split.lean ====
module

public import proofs.«01_k».proof.Proof.Tile

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ) (ρ : Dev nD → PrngReg)

/-! ## The obligation -/

/-- The tile at core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => printed (coordsV c s)) ⟨⟩ c s := rfl

set_option maxRecDepth 16384 in
theorem tileObl (hp : ∀ d i, PosOK i (idsM m d)) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) (hp d _) O W hO hOlev

/-! ## A SparseCore's part and its tiles' -/

theorem outW_disj (c : ℕ) : ∀ j ∈ (Finset.univ : Finset (Fin 16)), ∀ j' ∈ (Finset.univ : Finset (Fin 16)), j ≠ j' → Disjoint (outW c j.val) (outW c j'.val) := by
  intro j _ j' _ h
  rw [Finset.disjoint_left]
  intro x h1 h2
  rw [mem_outW] at h1 h2
  exact h (Fin.ext (by omega))
theorem outW_cover (c : ℕ) : (Finset.univ : Finset (Fin 16)).biUnion (fun j => outW c j.val) = outC c := by
  ext x
  have h1 : (x 1).val < 8192 := (x 1).isLt
  rw [Finset.mem_biUnion, mem_outC]
  constructor
  · rintro ⟨j, -, h⟩
    rw [mem_outW] at h
    have := j.isLt
    omega
  · intro h
    refine ⟨⟨8 * ((x 0).val % 2) + (x 1).val / 1024, by omega⟩, Finset.mem_univ _, ?_⟩
    rw [mem_outW]
    constructor
    · show (x 0).val = 2 * c + (8 * ((x 0).val % 2) + (x 1).val / 1024) / 8; omega
    · show (x 1).val / 1024 = (8 * ((x 0).val % 2) + (x 1).val / 1024) % 8; omega
theorem outC_disj : ∀ c ∈ (Finset.univ : Finset (Fin 2)), ∀ c' ∈ (Finset.univ : Finset (Fin 2)), c ≠ c' → Disjoint (outC c.val) (outC c'.val) := by
  intro c _ c' _ h
  rw [Finset.disjoint_left]
  intro x h1 h2
  rw [mem_outC] at h1 h2
  exact h (Fin.ext (h1.symm.trans h2))
theorem outC_cover : (Finset.univ : Finset (Fin 2)).biUnion (fun c => outC c.val) = Finset.univ := by
  ext x
  have h0 : (x 0).val < 4 := (x 0).isLt
  exact ⟨fun _ => Finset.mem_univ _, fun _ => Finset.mem_biUnion.mpr ⟨⟨(x 0).val / 2, by omega⟩, Finset.mem_univ _, mem_outC.mpr rfl⟩⟩

/-- A SparseCore's part is its tiles' parts. -/
theorem core_tiles (d : Dev nD) (c : Fin 2) (f : S4x8192x128.Idx → F .f32) : coreIn m d c f = bigSep Finset.univ fun j : Fin 16 => tileIn m d c j f := by
  have h1 := pointsTo_piecesOf (Ix := HIx 1) (Name := ℕ) (U := UU) (Lvl := ℕ) (Val := Elt F) (ℓ := idsLoc d) Finset.univ (m (idsLoc d)) (o := 16) (by decide) (sh2 c)
  have h2 := pointsTo_piecesOf (Ix := HIx 1) (Name := ℕ) (U := UU) (Lvl := ℕ) (Val := Elt F) (ℓ := tabLoc d) Finset.univ (m (tabLoc d)) (o := 16) (by decide) (sh2 c)
  have h3 := pointsTo_biUnion (Ix := HIx 1) (Name := ℕ) (U := UU) (Lvl := ℕ) (Val := Elt F) Finset.univ (ℓ := outLoc d) (q := fullShare) (f := f) (fun j : Fin 16 => outW c.val j.val) (outW_disj c.val)
  rw [outW_cover] at h3
  unfold coreIn tileIn
  rw [bigSep_sep', bigSep_sep', h1, h2, h3]
  rfl
/-- The arguments and the result whole are the SparseCores' parts. -/
theorem all_cores (d : Dev nD) (f : S4x8192x128.Idx → F .f32) :
    (iprop((idsLoc d ↦{fullShare} m (idsLoc d)) ∗ (tabLoc d ↦{fullShare} m (tabLoc d)) ∗ outLoc d ↦{fullShare} f) : sProp (Mod F)) = bigSep Finset.univ fun c : Fin 2 => coreIn m d c f := by
  have h1 := pointsTo_piecesOf (Ix := HIx 1) (Name := ℕ) (U := UU) (Lvl := ℕ) (Val := Elt F) (ℓ := idsLoc d) Finset.univ (m (idsLoc d)) (o := 2) (by decide) fullShare
  have h2 := pointsTo_piecesOf (Ix := HIx 1) (Name := ℕ) (U := UU) (Lvl := ℕ) (Val := Elt F) (ℓ := tabLoc d) Finset.univ (m (tabLoc d)) (o := 2) (by decide) fullShare
  have h3 := pointsTo_biUnion (Ix := HIx 1) (Name := ℕ) (U := UU) (Lvl := ℕ) (Val := Elt F) Finset.univ (ℓ := outLoc d) (q := fullShare) (f := f) (fun c : Fin 2 => outC c.val) outC_disj
  rw [outC_cover] at h3
  unfold coreIn
  rw [bigSep_sep', bigSep_sep', h1, h2, h3]
  rfl

/-- The shared arrays' parts, out of the arrays at some contents. -/
theorem shared_split (d : Dev nD) (c : Fin τ.nSC) (f : S2x8x16.Idx → BitVec 32) (g : S1041x128.Idx → F .f32) :
    iprop((shmLoc d c ↦{fullShare} f) ∗ shtLoc d c ↦{fullShare} g) ⊢ (bigSep Finset.univ fun j : Fin 16 => sharedIn d c j.val : sProp (Mod F)) := by
  have h1 := pointsTo_biUnion (Ix := HIx 1) (Name := ℕ) (U := UU) (Lvl := ℕ) (Val := Elt F) Finset.univ (ℓ := shmLoc d c) (q := fullShare) (f := f) (fun n : Fin 16 => shmOwn n.val) own_disj_shm
  have h2 := pointsTo_biUnion (Ix := HIx 1) (Name := ℕ) (U := UU) (Lvl := ℕ) (Val := Elt F) Finset.univ (ℓ := shtLoc d c) (q := fullShare) (f := g) (fun n : Fin 16 => shtOwn n.val) own_disj_sht
  rw [own_cover_shm] at h1
  rw [own_cover_sht] at h2
  rw [h1, h2, ← bigSep_sep']
  exact bigSep_mono fun j _ => BI.sep_mono (BI.BIClass.exists_intro (Φ := fun f => (shmLoc d c ↦[shmOwn j.val]{fullShare} f : sProp (Mod F))) f)
    (BI.BIClass.exists_intro (Φ := fun g => (shtLoc d c ↦[shtOwn j.val]{fullShare} g : sProp (Mod F))) g)
/-- The shared arrays whole, of the tiles' shares. -/
theorem shared_join (d : Dev nD) (c : Fin τ.nSC) : (bigSep Finset.univ fun j : Fin 16 => sharedOut m d c j : sProp (Mod F))
    ⊢ iprop((∃ f, shmLoc d c ↦{fullShare} f) ∗ ∃ f, shtLoc d c ↦{fullShare} f) := by
  unfold sharedOut
  rw [bigSep_sep', ← shm_pieces d c Finset.univ, ← sht_pieces d c Finset.univ]
  iintro ⟨H1, H2⟩
  isplitl [H1]; · iexists _; iexact H1
  iexists _; iexact H2

/-- The two shared arrays are among the sequencer's own buffers. -/
theorem ownBufs_S (d : Dev nD) (c : Fin τ.nSC) :
    (ownBufs (S d c) : sProp (Mod F))
      = iprop((∃ f, shmLoc d c ↦{fullShare} f) ∗ (∃ f, shtLoc d c ↦{fullShare} f)
          ∗ bigSep (((ownRefs (τ := τ) (.scScalar c)).erase (shmRef c)).erase (shtRef c)) fun b => iprop(∃ f, ((d, b) : Loc nD τ sig) ↦{fullShare} f)) := by
  unfold SparseCore.Cfg.ownBufs
  have h1 : shmRef c ∈ ownRefs (τ := τ) (sig := sig) (.scScalar c) := (mem_ownRefs (p := Proc.scScalar c) (b := shmRef c)).mpr rfl
  have h2 : shtRef c ∈ ownRefs (τ := τ) (sig := sig) (.scScalar c) := (mem_ownRefs (p := Proc.scScalar c) (b := shtRef c)).mpr rfl
  have h3 : shtRef c ∈ (ownRefs (τ := τ) (sig := sig) (.scScalar c)).erase (shmRef c) := Finset.mem_erase.mpr ⟨fun e => by
    have := congrArg (fun b : DevRef τ sig => b.idx.val) e
    exact absurd this (by show ¬ ((1 : ℕ) = 0); decide), h2⟩
  refine (SparseCore.bigSep_erase' h1).trans ?_
  rw [SparseCore.bigSep_erase' h3]

theorem vecSplit : (K (F := F)).VecSplit (P m) 0 := by
  intro d c
  show iprop(coreIn m d (Fin.cast nCore_zero c) (m (outLoc d)) ∗ ownBufs (S d (coreOf c))) ⊢ |={Set.univ}=> iprop(
      (bigSep Finset.univ fun i : Fin 16 => iprop(tileIn m d (Fin.cast nCore_zero c) i (m (outLoc d)) ∗ sharedIn d (coreOf c) i.val))
      ∗ ((bigSep Finset.univ fun i : Fin 16 => iprop((tileIn m d (Fin.cast nCore_zero c) i (outM' m d) ∗ sharedOut m d (coreOf c) i)
            ∗ semVal (bcell d (coreOf c) (Fin.cast rfl i)) 0))
          -∗ iprop(iprop(coreIn m d (Fin.cast nCore_zero c) (outM' m d) ∗ bars d (coreOf c)) ∗ ownBufs (S d (coreOf c)))))
  rw [bigSep_sep' Finset.univ (fun i : Fin 16 => tileIn m d (Fin.cast nCore_zero c) i (m (outLoc d))) (fun i : Fin 16 => sharedIn d (coreOf c) i.val),
    bigSep_sep' Finset.univ (fun i : Fin 16 => iprop(tileIn m d (Fin.cast nCore_zero c) i (outM' m d) ∗ sharedOut m d (coreOf c) i)) (fun i : Fin 16 => semVal (bcell d (coreOf c) (Fin.cast rfl i)) 0),
    bigSep_sep' Finset.univ (fun i : Fin 16 => tileIn m d (Fin.cast nCore_zero c) i (outM' m d)) (fun i : Fin 16 => sharedOut m d (coreOf c) i),
    ← core_tiles, ← core_tiles, ownBufs_S]
  iintro ⟨Hc, ⟨%f, Hm⟩, ⟨%g, Ht⟩, Hrest⟩; imodintro
  isplitl [Hc Hm Ht]
  · isplitl [Hc]; · iexact Hc
    iapply (shared_split d (coreOf c) f g)
    isplitl [Hm] <;> iassumption
  iintro ⟨⟨Hc, Hsh⟩, Hbars⟩
  ihave Hsh' := (shared_join m d (coreOf c)) $$ Hsh
  icases Hsh' with ⟨Hm, Ht⟩
  isplitl [Hc Hbars]
  · isplitl [Hc]; · iexact Hc
    iexact Hbars
  isplitl [Hm]; · iexact Hm
  isplitl [Ht]; · iexact Ht
  iexact Hrest

end Cert.Proof.Embed

end
-- ==== Proof.Launch.lean ====
module

public import proofs.«01_k».proof.Proof.Split

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ) (ρ : Dev nD → PrngReg)

/-! ## What the launch hands over -/

/-- The tiles of all SparseCores, and their barrier cells. -/
abbrev TileIx : Type := Dev nD × Fin τ.nSC × Fin τ.nSub
abbrev bcell₃ (x : TileIx) : GSem nD τ sig := bcell x.1 x.2.1 x.2.2
def bCells : Finset (GSem nD τ sig) := Finset.univ.image bcell₃
/-- Each tile's token in the cell of each tile of its SparseCore. -/
def bToks : Finset (GSem nD τ sig × ℕ × ℕ) :=
  ((Finset.univ : Finset TileIx) ×ˢ Finset.univ).image fun x : TileIx × Fin (grid0.bound 1) => (bcell x.1.1 x.1.2.1 (x.2.castLE hsub0), 0, x.1.2.2.val)
def u₀ : UU := (initOf (K (F := F)).hsCells (K (F := F)).hsToks, (initOf bCells bToks, 1))

theorem bcell₃_injective : Function.Injective (bcell₃ : TileIx → GSem nD τ sig) := fun a b e => by
  obtain ⟨h1, h2⟩ := Prod.mk.inj (Prod.mk.inj e).1; obtain ⟨h3, h4⟩ := Proc.scVector.inj h2
  exact Prod.ext h1 (Prod.ext h3 h4)

theorem bCells_eq (Φ : GSem nD τ sig → sProp (Mod F)) : bigSep bCells Φ = bigSep Finset.univ fun x : TileIx => Φ (bcell₃ x) := by
  unfold bCells; exact SparseCore.bigSep_image_of_injOn (fun a _ b _ e => bcell₃_injective e) Φ

theorem ownU_split (a : UH) (b : UB) : (ownU ((a, (b, 1)) : UU) : sProp (Mod F)) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores. -/
theorem sems_b : ((K (F := F)).freeOn (· ∈ bCells) : sProp (Mod F)) ⊢ bigSep bCells fun g => semVal g 0 := by
  unfold SparseCore.Cfg.freeOn
  rw [bCells_eq]
  refine sep_elim_right.trans (bigSep_mono fun x _ => ?_)
  exact bigSep_elim (Φ := fun sm : SemLoc sig => (semVal (V x.1 x.2.1 x.2.2, sm) 0 : sProp (Mod F))) (Finset.mem_filter.mpr
    ⟨Finset.mem_erase.mpr ⟨fun h => sc_bar0_ne_go (SemLoc.reg.inj h), Finset.mem_filter.mpr ⟨Finset.mem_univ _, by decide⟩⟩,
      Finset.mem_image_of_mem bcell₃ (Finset.mem_univ x)⟩)

/-- The barrier cells' invariants, allocated at once. -/
theorem invs_b : iprop((bigSep bCells fun g => (semVal g 0 : sProp (Mod F))) ∗ bigSep bCells fun g => roundState EB (bRd m) g 0)
    ⊢ |={Set.univ}=> iprop(∃ κ : GSem nD τ sig → ℕ, bigSep bCells fun g => cellInv EB (bRd m) (κ g) g) := by
  refine (Rounds.bodies_intro EB (bRd m) bCells).trans ((inv_alloc_family bCells (Rounds.body EB (bRd m)) ∅ (E := Set.univ)).trans ?_)
  iintro H
  imod H with ⟨%κ, -, Hinv⟩
  imodintro; iexists κ; iexact Hinv

theorem tally_units (g : GSem nD τ sig) (ι : HIx 1) (n : ℕ) : ∑ _ : Fin n, tallyAt g ι 1 = (tallyAt g ι n : CellTallies nD τ sig (HIx 1)) := by
  induction n with
  | zero => rw [tallyAt_zero]; exact Finset.sum_of_isEmpty _
  | succ n ih => rw [Fin.sum_univ_castSucc, ih, tallyAt_add]

/-- The credit for the tiles' debts, regrouped: each tile the sixteen units of its own cell. -/
theorem creds_b : ((P m).oxCred : sProp (Mod F)) ⊢ bigSep Finset.univ fun x : TileIx => cred (tallyAt (bcell₃ x) (some 0) (grid0.bound 1)) := by
  unfold SparseCore.Cfg.Pay.oxCred
  rw [SparseCore.Cfg.bigSep_threads (fun thr : Thread nD τ => (cred ((P m).oxFrom 0 thr) : sProp (Mod F)))]
  refine sep_elim_right.trans (sep_elim_right.trans ?_)
  rw [bigSep_univ_prod, bigSep_univ_prod (fun x : TileIx => (cred (tallyAt (bcell₃ x) (some 0) (grid0.bound 1)) : sProp (Mod F)))]
  refine bigSep_mono fun d _ => ?_
  rw [bigSep_univ_prod, bigSep_univ_prod (fun ci : Fin τ.nSC × Fin τ.nSub => (cred (tallyAt (bcell₃ (d, ci)) (some 0) (grid0.bound 1)) : sProp (Mod F)))]
  refine bigSep_mono fun c _ => ?_
  have hox : ∀ i, (P m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, tally_units]; rfl

/-- A persistent resource beside a big separating conjunction goes to each conjunct. -/
theorem bigSep_mono_frame {I : Type} [DecidableEq I] {R : sProp (Mod F)} [BI.Persistent R] {s : Finset I} {Φ Ψ : I → sProp (Mod F)}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2
/-- A persistent resource whose every conjunct follows from it alone. -/
theorem bigSep_of_pers {I : Type} [DecidableEq I] {R : sProp (Mod F)} [BI.Persistent R] (s : Finset I) {Ψ : I → sProp (Mod F)} (h : ∀ i ∈ s, R ⊢ Ψ i) : R ⊢ bigSep s Ψ := by
  iintro #HR
  iapply (bigSep_mono_frame (R := R) (s := s) (Φ := fun _ => iprop(emp)) fun i hi => sep_elim_left.trans (h i hi))
  isplitl; · iexact HR
  rw [bigSep_emp']; iempintro

theorem toks_eq : (bigSep bToks fun x => (dutyTok EB x.1 x.2.1 x.2.2 : sProp (Mod F)))
    = bigSep Finset.univ fun x : TileIx => bigSep Finset.univ fun j : Fin (grid0.bound 1) => dutyTok EB (bcell x.1 x.2.1 (j.castLE hsub0)) 0 x.2.2.val := by
  unfold bToks
  rw [SparseCore.bigSep_image_of_injOn, SparseCore.bigSep_product]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  obtain rfl : j = j' := Fin.ext (congrArg Fin.val hj)
  obtain rfl : i = i' := Fin.ext e2
  rfl

theorem Px_T (d : Dev nD) : (bigSep Finset.univ fun q : Fin 1 => (P m).x q (SparseCore.T d)) = iprop(emp) :=
  bigSep_univ_of_subsingleton (0 : Fin 1)
theorem Px_S (d : Dev nD) (c : Fin τ.nSC) : (bigSep Finset.univ fun q : Fin 1 => (P m).x q (S d c)) = iprop(emp) :=
  bigSep_univ_of_subsingleton (0 : Fin 1)
theorem Px_V (d : Dev nD) (c : Fin τ.nSC) (i : Fin τ.nSub) : (bigSep Finset.univ fun q : Fin 1 => (P m).x q (V d c i)) = bkit m d c i :=
  bigSep_univ_of_subsingleton (0 : Fin 1)

/-- What every tile is handed alike: the barrier cells' invariants, and that each has reached round 0. -/
abbrev alike : sProp (Mod F) :=
  iprop((∃ κ : GSem nD τ sig → ℕ, bigSep Finset.univ fun x : TileIx => cellInv EB (bRd m) (κ (bcell₃ x)) (bcell₃ x))
    ∗ bigSep Finset.univ fun x : TileIx => reached EB (bcell₃ x) 0)
/-- What each tile is handed of its own: its position, its tokens, its credit. -/
abbrev mine (x : TileIx) : sProp (Mod F) :=
  iprop(atPos EB (bcell₃ x) 0 ∅ 0
    ∗ (bigSep Finset.univ fun j : Fin (grid0.bound 1) => dutyTok EB (bcell x.1 x.2.1 (j.castLE hsub0)) 0 x.2.2.val)
    ∗ cred (tallyAt (bcell₃ x) (some 0) (grid0.bound 1)))

/-- One tile's kit out of those. -/
theorem kit_intro (x : TileIx) : iprop(alike m ∗ mine (F := F) x) ⊢ (bkit m x.1 x.2.1 x.2.2 : sProp (Mod F)) := by
  obtain ⟨d, c, i⟩ := x
  iintro ⟨⟨⟨%κ, #Hinv⟩, #Hr⟩, Hat, Htok, Hcred⟩
  unfold bkit
  isplitr
  · iexists κ
    iapply (bigSep_of_pers (R := bigSep Finset.univ fun x : TileIx => cellInv EB (bRd m) (κ (bcell₃ x)) (bcell₃ x)) (Finset.univ : Finset (Fin (grid0.bound 1))) fun j _ =>
      bigSep_elim (Φ := fun x : TileIx => (cellInv EB (bRd m) (κ (bcell₃ x)) (bcell₃ x) : sProp (Mod F))) (i := (d, c, Fin.castLE hsub0 j)) (Finset.mem_univ _))
    iexact Hinv
  isplitl [Htok]; · iexact Htok
  isplitr
  · iapply (bigSep_of_pers (R := bigSep Finset.univ fun x : TileIx => (reached EB (bcell₃ x) 0 : sProp (Mod F))) (Finset.univ : Finset (Fin (grid0.bound 1))) fun j _ =>
      bigSep_elim (Φ := fun x : TileIx => (reached EB (bcell₃ x) 0 : sProp (Mod F))) (i := (d, c, Fin.castLE hsub0 j)) (Finset.mem_univ _))
    iexact Hr
  isplitl [Hat]; · iexact Hat
  iexact Hcred

/-- Each tile its kit. -/
theorem kits_deal :
    iprop(alike m ∗ (bigSep Finset.univ fun x : TileIx => atPos EB (bcell₃ x) 0 ∅ 0)
        ∗ (bigSep Finset.univ fun x : TileIx => bigSep Finset.univ fun j : Fin (grid0.bound 1) => dutyTok EB (bcell x.1 x.2.1 (j.castLE hsub0)) 0 x.2.2.val)
        ∗ (bigSep Finset.univ fun x : TileIx => cred (tallyAt (bcell₃ x) (some 0) (grid0.bound 1))))
      ⊢ (bigSep Finset.univ fun thr : Thread nD τ => bigSep Finset.univ fun q : Fin 1 => (P m).x q thr : sProp (Mod F)) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := alike m) (s := Finset.univ) (Φ := mine (F := F)) fun x _ => kit_intro m x)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P m).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp (Mod F)) := by
  unfold u₀
  iintro ⟨Hu, Hcred, Hfree⟩
  ihave H := (ownU_split _ _) $$ Hu
  icases H with ⟨HH, HB⟩
  imod (Rounds.fund EB (bRd m) bCells bToks) $$ HB with ⟨Hst, #Hr, Hat, Htok⟩
  ihave Hsems := (sems_b (F := F)) $$ Hfree
  imod (invs_b m) $$ [Hsems Hst] with ⟨%κ, #Hinv⟩
  · isplitl [Hsems] <;> iassumption
  ihave Hcred' := (creds_b m) $$ Hcred
  ihave Hinv' := (Entails.of_eq (bCells_eq (F := F) fun g => cellInv EB (bRd m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

/-! ## @main -/

theorem unscopedBufs_eq (d : Dev nD) (W : (b : Ref sig .tc) → Buf (Elt F) ((d.tc : Thread nD τ).loc b)) :
    (unscopedBufs d W : sProp (Mod F)) = iprop((idsLoc d ↦{fullShare} W main_arg0) ∗ (tabLoc d ↦{fullShare} W main_arg1) ∗ outLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The barrier semaphores of every SparseCore, at zero. -/
abbrev allBars (d : Dev nD) : sProp (Mod F) := bigSep Finset.univ fun c : Fin 2 => bars d (Fin.cast rfl c)
/-- The arguments, and the result at given contents. -/
abbrev whole (d : Dev nD) (f : S4x8192x128.Idx → F .f32) : sProp (Mod F) :=
  iprop((idsLoc d ↦{fullShare} m (idsLoc d)) ∗ (tabLoc d ↦{fullShare} m (tabLoc d)) ∗ outLoc d ↦{fullShare} f)

theorem st0_eq (d : Dev nD) : (bigSep Finset.univ fun c : Fin ((K (F := F)).nCore 0) => (P m).st 0 d c) = whole m d (m (outLoc d)) :=
  (all_cores m d (m (outLoc d))).symm
theorem dn0_eq (d : Dev nD) : (bigSep Finset.univ fun c : Fin ((K (F := F)).nCore 0) => (P m).dn 0 d c) = iprop(whole m d (outM' m d) ∗ allBars d) := by
  unfold whole
  rw [all_cores]
  exact bigSep_sep' Finset.univ (fun c : Fin 2 => coreIn m d c (outM' m d)) (fun c : Fin 2 => bars d (Fin.cast rfl c))

/-- What @main ends with: the arguments, the result filled, the barrier semaphores. -/
abbrev FIN (d : Dev nD) : sProp (Mod F) := iprop(whole m d (outM' m d) ∗ allBars d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hw, Hts, -⟩, -⟩
  iapply ((K (F := F)).wp_run (D (F := F)) 𝒱 (EH := EH) (P := P m) κ d 0) $$ [Hst Hw Hb Hts]
  isplitr; · iexact Hctx
  isplitl [Hst]; · iexact Hst
  isplitl [Hw]
  · rw [st0_eq]; iexact Hw
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-- What a final state shows of @main's end. -/
def fq (d : Dev nD) (s' : Phys nD τ sig (Elt F)) : Prop :=
  s'.mem.mem (idsLoc d) = m (idsLoc d) ∧ s'.mem.mem (tabLoc d) = m (tabLoc d) ∧ s'.mem.mem (outLoc d) = outM' m d
    ∧ ∀ (c : Fin τ.nSC) (i : Fin τ.nSub), s'.mem.sem (bcell d c i) = 0

theorem read_whole_buf (ℓ : Loc nD τ sig) (f : Buf (Elt F) ℓ) (s' : Phys nD τ sig (Elt F)) : iprop((ℓ ↦{fullShare} f) ∗ SI s') ⊢ (⌜s'.mem.mem ℓ = f⌝ : sProp (Mod F)) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp (Mod F)) :=
  fun x hx => ⟨((sep_mono_left (sep_elim_left.trans sep_elim_left)).trans (read_whole_buf (idsLoc d) _ s')) x hx,
    ((sep_mono_left (sep_elim_left.trans (sep_elim_right.trans sep_elim_left))).trans (read_whole_buf (tabLoc d) _ s')) x hx,
    ((sep_mono_left (sep_elim_left.trans (sep_elim_right.trans sep_elim_right))).trans (read_whole_buf (outLoc d) _ s')) x hx,
    fun c i => ((sep_mono_left (sep_elim_right.trans ((SparseCore.ent (bigSep_elim (Φ := fun c : Fin 2 => bars (F := F) d (Fin.cast rfl c)) (i := c) (Finset.mem_univ _))).trans
      (SparseCore.ent (bigSep_elim (Φ := fun i : Fin 16 => (semVal (bcell d c (Fin.cast rfl i)) 0 : sProp (Mod F))) (i := i) (Finset.mem_univ _)))))).trans (SparseCore.Cfg.semVal_zero_read _ s')) x hx⟩

/-- The cells taken at the launch end at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2.2.2 c i

/-- The kernel's run: the arguments unchanged, the result as the tiles left it, every semaphore at zero. -/
def QC : PUnit × MemSt nD τ sig (Elt F) → Prop := fun r =>
  (∀ d : Dev nD, r.2.mem (idsLoc d) = m (idsLoc d) ∧ r.2.mem (tabLoc d) = m (tabLoc d) ∧ r.2.mem (outLoc d) = outM' m d) ∧ r.2.sem = fun _ => 0

theorem run_at (hp : ∀ d i, PosOK i (idsM m d)) [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (hA := hA m) kfacts v₀
    (fun q hq => match q with | 0 => nomatch hq)
    (fun q _ => match q with | 0 => tileObl m hp)
    (fun q _ => match q with | 0 => vecSplit m)
    m ρ main (fun _ => iprop(emp)) (FIN m) (u₀ (F := F)) (hu₀ m) (hmain m ρ) (fq m) (hfin m) (QC m) (fun _ h hz => ⟨fun d => ⟨(h d).1, (h d).2.1, (h d).2.2.1⟩, hz⟩)

end Cert.Proof.Embed

end
-- ==== Proof.Spec.lean ====
module

public import Idealize.ShloMosaic.Lib.Tactic.WordOmega

@[expose] public section

namespace Cert.Proof.Embed

/-! ## What the kernel computes, in natural numbers

A row of ids is a function from the index along the row. A run of digits starts at an index whose id is a digit and whose
predecessor's is not; an operand's position counts from the last start at or before it, and every other position is 0. -/

/-- The id is a digit's: 1 or 17 … 26. -/
def Dig (w : BitVec 32) : Prop := w.toNat = 1 ∨ 17 ≤ w.toNat ∧ w.toNat ≤ 26
/-- The id is an operand's: a digit's, 12 or 30. -/
def Opd (w : BitVec 32) : Prop := Dig w ∨ w.toNat = 12 ∨ w.toNat = 30

instance (w : BitVec 32) : Decidable (Dig w) := inferInstanceAs (Decidable (_ ∨ _))
instance (w : BitVec 32) : Decidable (Opd w) := inferInstanceAs (Decidable (_ ∨ _))

/-- The greatest of `f lo … f (lo + n - 1)`, 0 of none. -/
def mx (f : ℕ → ℕ) (lo : ℕ) : ℕ → ℕ
  | 0 => 0
  | n + 1 => max (mx f lo n) (f (lo + n))

theorem mx_add (f : ℕ → ℕ) (lo a b : ℕ) : mx f lo (a + b) = max (mx f lo a) (mx f (lo + a) b) := by
  induction b with
  | zero => simp [mx]
  | succ b ih => rw [← Nat.add_assoc, mx, ih, mx, Nat.max_assoc, Nat.add_assoc]

theorem mx_le (f : ℕ → ℕ) (lo n B : ℕ) (h : ∀ k < n, f (lo + k) ≤ B) : mx f lo n ≤ B := by
  induction n with
  | zero => exact Nat.zero_le _
  | succ n ih => exact max_le (ih fun k hk => h k (by omega)) (h n (by omega))

theorem le_mx (f : ℕ → ℕ) (lo n k : ℕ) (h : k < n) : f (lo + k) ≤ mx f lo n := by
  induction n with
  | zero => omega
  | succ n ih =>
    rcases Nat.lt_succ_iff_lt_or_eq.1 h with h | rfl
    · exact (ih h).trans (le_max_left _ _)
    · exact le_max_right _ _

theorem mx_congr (f g : ℕ → ℕ) (lo n : ℕ) (h : ∀ k < n, f (lo + k) = g (lo + k)) : mx f lo n = mx g lo n := by
  induction n with
  | zero => rfl
  | succ n ih => rw [mx, mx, ih fun k hk => h k (by omega), h n (by omega)]

theorem mx_shift (f : ℕ → ℕ) (lo n : ℕ) : mx (fun k => f (lo + k)) 0 n = mx f lo n := by
  induction n with
  | zero => rfl
  | succ n ih => rw [mx, mx, ih, Nat.zero_add]

section Row

variable (r : ℕ → BitVec 32)

/-- A run of digits starts at index `n`. -/
def IsStart (n : ℕ) : Prop := Dig (r n) ∧ (n = 0 ∨ ¬Dig (r (n - 1)))
instance (n : ℕ) : Decidable (IsStart r n) := inferInstanceAs (Decidable (_ ∧ _))
/-- The index of a start, 0 elsewhere. -/
def st (n : ℕ) : ℕ := if IsStart r n then n else 0
/-- The last start at or before index `n`, 0 if there is none. -/
def last (n : ℕ) : ℕ := mx (st r) 0 (n + 1)
/-- The position of index `n`. -/
def pos (n : ℕ) : ℕ := if Opd (r n) then n - last r n + 1 else 0

theorem st_le (n : ℕ) : st r n ≤ n := by unfold st; split <;> omega

theorem mx_st_le (lo n B : ℕ) (h : lo + n ≤ B + 1) : mx (st r) lo n ≤ B :=
  mx_le _ _ _ _ fun k hk => (st_le r _).trans (by omega)

theorem last_le (n : ℕ) : last r n ≤ n := mx_st_le r 0 (n + 1) n (by omega)

theorem pos_le (n : ℕ) : pos r n ≤ n + 1 := by unfold pos; split <;> omega

end Row

end Cert.Proof.Embed
-- ==== Proof.Runs.lean ====
module

public import proofs.«01_k».proof.Proof.Spec

@[expose] public section

namespace Cert.Proof.Embed

/-! ## Runs of digits, numbered

The runs of a row are numbered from 1: `seg r n` is the number of starts at or before index `n`. Two indices with one number
have one last start, which is what lets a sum by run number bring a run's start to every index of the run. -/

section Row

variable (r : ℕ → BitVec 32)

/-- 1 at a start, 0 elsewhere. -/
def one (n : ℕ) : ℕ := if IsStart r n then 1 else 0

/-- The number of starts at or before index `n`. -/
def seg : ℕ → ℕ
  | 0 => one r 0
  | n + 1 => seg n + one r (n + 1)

/-- The number of starts is the sum of the ones. -/
theorem seg_eq_sum (n : ℕ) : ((List.range (n + 1)).map (one r)).sum = seg r n := by
  induction n with
  | zero => simp [seg]
  | succ n ih => rw [List.range_succ, List.map_append, List.sum_append, ih, seg]; simp

/-- Starts are never adjacent, so at most every other index is one. -/
theorem two_seg_le (n : ℕ) : 2 * seg r n ≤ n + 1 + if Dig (r n) then 1 else 0 := by
  induction n with
  | zero =>
    unfold seg one IsStart
    by_cases h : Dig (r 0) <;> simp [h]
  | succ n ih =>
    unfold seg one IsStart
    by_cases h : Dig (r (n + 1)) <;> by_cases h' : Dig (r n) <;> simp [h, h'] at ih ⊢ <;> omega

theorem seg_lt (n : ℕ) (h : n < 8192) : seg r n < 8192 := by
  have := two_seg_le r n
  split at this <;> omega

theorem seg_mono {m n : ℕ} (h : m ≤ n) : seg r m ≤ seg r n := by
  induction n, h using Nat.le_induction with
  | base => exact le_rfl
  | succ n _ ih => exact ih.trans (Nat.le_add_right _ _)

/-- A start has a greater number than everything before it. -/
theorem seg_lt_start {m k : ℕ} (h : m < k) (hk : IsStart r k) : seg r m < seg r k := by
  obtain ⟨n, rfl⟩ : ∃ n, k = n + 1 := ⟨k - 1, by omega⟩
  have := seg_mono r (show m ≤ n by omega)
  rw [seg, one, if_pos hk]
  omega

/-- Where nothing starts the number stays. -/
theorem seg_const {m n : ℕ} (h : m ≤ n) (hk : ∀ k, m < k → k ≤ n → ¬IsStart r k) : seg r n = seg r m := by
  induction n, h using Nat.le_induction with
  | base => rfl
  | succ n hmn ih =>
    rw [seg, one, if_neg (hk _ (by omega) le_rfl), Nat.add_zero]
    exact ih fun k h1 h2 => hk k h1 (by omega)

/-- A start at or before `n` is at or before the last one. -/
theorem le_last {k n : ℕ} (h : k ≤ n) (hk : IsStart r k) : k ≤ last r n := by
  have := le_mx (st r) 0 (n + 1) k (by omega)
  rwa [Nat.zero_add, st, if_pos hk] at this

/-- A running maximum of the starts is 0 or a start. -/
theorem mx_st (n : ℕ) : mx (st r) 0 n = 0 ∨ IsStart r (mx (st r) 0 n) := by
  induction n with
  | zero => exact Or.inl rfl
  | succ n ih =>
    rw [mx]
    rcases max_choice (mx (st r) 0 n) (st r (0 + n)) with h | h <;> rw [h]
    · exact ih
    · unfold st
      split
      · next hs => exact Or.inr hs
      · exact Or.inl rfl

/-- The start with the number of index `n` is the last start: what a start `i` contributes to the run of `n` is its index
    if it is that run's, nothing otherwise. -/
theorem pick {n i : ℕ} (hi : i ≠ last r n) (h : seg r i = seg r n) : st r i = 0 := by
  unfold st
  split
  · next hs =>
    exfalso
    have hin : i ≤ n := by
      by_contra hc
      have := seg_lt_start r (show n < i by omega) hs
      omega
    have hl := le_last r hin hs
    have hll : IsStart r (last r n) := (mx_st r (n + 1)).resolve_left (show last r n ≠ 0 by omega)
    have h1 := seg_lt_start r (show i < last r n by omega) hll
    have h2 := seg_mono r (last_le r n)
    omega
  · rfl

theorem pick_last (n : ℕ) : (if seg r (last r n) = seg r n then st r (last r n) else 0) = last r n := by
  rcases mx_st r (n + 1) with h | h
  · have h' : last r n = 0 := h
    rw [h']
    split
    · exact Nat.le_zero.1 (st_le r 0)
    · rfl
  · have h' : IsStart r (last r n) := h
    rw [if_pos (seg_const r (last_le r n) fun k h1 h2 hs => by have := le_last r h2 hs; omega).symm, st, if_pos h']

end Row

end Cert.Proof.Embed
-- ==== Proof.RefOps.lean ====
module

public import proofs.«01_k».proof.Proof.Runs
public import Idealize.ShloMosaic.Lib.Routing.Ops
public import Idealize.ShloMosaic.Lib.Routing.OpsPair
public import Idealize.ShloMosaic.Lib.Routing.OpsOrder

@[expose] public section

noncomputable section

namespace Cert.Proof.Embed

open Idealize.ShloMosaic Idealize.ShloMosaic.ValueIdx Idealize.ShloMosaic.Routing

/-! ## The reference's array operations at one element

Each operation of the reference that is not elementwise, read at one element and at any extents. -/

/-- The prefix sum along a row of a matrix. -/
theorem prefix_row {R N M : Nat} (hN : M + 1 = N) (x : IVec (shape2 R N) 32) (f : ℕ → ℕ) (b : Fin R)
    (hx : ∀ i : Fin N, x (ix2 b i) = BitVec.ofNat 32 (f i.val)) (init : IVec shape0 32) (hinit : init ix0 = 0#32)
    (h : (shape2 R N).ReduceWindows (![1, N] : Fin 2 → Nat) ![1, 1] ![0, M] ![0, 0] (shape2 R N)) (hu : 0 < shape0.numel) (j : Fin N) :
    Host.reduceWindow IntOp.addi ![1, N] ![1, 1] ![0, M] ![0, 0] x init h hu (ix2 b j)
      = BitVec.ofNat 32 ((List.range (j.val + 1)).map f).sum := by
  subst hN
  have hz : init (Shape.Idx.first hu) = 0#32 := (congrArg init (eq_ix0 _)).trans hinit
  have hj := j.isLt
  have hb := b.isLt
  unfold Host.reduceWindow
  dsimp only
  refine (foldl_addi_ofNat _ _ (fun n => if M ≤ j.val + n.val then f (j.val + n.val - M) else 0) ?_ _ 0 hz).trans ?_
  · intro n _
    have hn : n.val < M + 1 := (n.cast (numel2 _)).isLt
    have w0 : ((shape2 1 (M + 1)).rowMajor.symm n 0).val = 0 := by rw [symm2]; rfl
    have w1 : ((shape2 1 (M + 1)).rowMajor.symm n 1).val = n.val := by rw [symm2]; rfl
    by_cases hc : M ≤ j.val + n.val
    · rw [if_pos hc, dif_pos]
      · refine (congrArg x (funext fun a => Fin.ext ?_)).trans (hx ⟨j.val + n.val - M, by omega⟩)
        match a with
        | ⟨0, _⟩ =>
          show b.val * 1 + ((shape2 1 (M + 1)).rowMajor.symm n 0).val - 0 = b.val
          rw [w0]; omega
        | ⟨1, _⟩ =>
          show j.val * 1 + ((shape2 1 (M + 1)).rowMajor.symm n 1).val - M = j.val + n.val - M
          rw [w1, Nat.mul_one]
      · intro a
        match a with
        | ⟨0, _⟩ =>
          show 0 ≤ b.val * 1 + ((shape2 1 (M + 1)).rowMajor.symm n 0).val ∧ b.val * 1 + ((shape2 1 (M + 1)).rowMajor.symm n 0).val - 0 < R
          rw [w0]; omega
        | ⟨1, _⟩ =>
          show M ≤ j.val * 1 + ((shape2 1 (M + 1)).rowMajor.symm n 1).val
            ∧ j.val * 1 + ((shape2 1 (M + 1)).rowMajor.symm n 1).val - M < M + 1
          rw [w1]; omega
    · rw [if_neg hc, dif_neg]
      · exact hz
      · intro hin
        have h1 : M ≤ j.val * 1 + ((shape2 1 (M + 1)).rowMajor.symm n 1).val := (hin 1).1
        rw [w1] at h1
        omega
  · rw [Nat.zero_add, map_finRange_val _ (fun w => if M ≤ j.val + w then f (j.val + w - M) else 0)]
    have hm : Shape.numel ⟨2, ![1, M + 1]⟩ = M + 1 := numel2 (M + 1)
    refine congrArg (BitVec.ofNat 32) ?_
    exact (congrArg (fun K => ((List.range K).map fun w => if M ≤ j.val + w then f (j.val + w - M) else 0).sum) hm).trans
      (sum_window f M j.val (by omega))

/-- A scatter that adds scalars into a matrix of zeros by pairs of row and column: an element to which only the update `(b, i₀)`
    brings anything but 0 holds what that update brings. -/
theorem scatter_pick {R C : Nat} (d : ScatterDims (shape2 R C) (shape3 R C 2) (shape2 R C)) (hiw : d.insertedWindowDims = [0, 1])
    (hsd : d.scatterDimsToOperandDims = [0, 1]) (hivd : d.indexVectorDim = 2) (z : IVec (shape2 R C) 32) (idx : IVec (shape3 R C 2) 32)
    (upd : IVec (shape2 R C) 32) (hR : R ≤ 2 ^ 31) (hC : C ≤ 2 ^ 31) (col val : ℕ → ℕ → ℕ)
    (hcol : ∀ (a : Fin R) (i : Fin C), col a.val i.val < 2 ^ 31)
    (h0 : ∀ (a : Fin R) (i : Fin C), idx (ix3 a i 0) = BitVec.ofNat 32 a.val)
    (h1 : ∀ (a : Fin R) (i : Fin C), idx (ix3 a i 1) = BitVec.ofNat 32 (col a.val i.val))
    (hu : ∀ (a : Fin R) (i : Fin C), upd (ix2 a i) = BitVec.ofNat 32 (val a.val i.val))
    (b : Fin R) (c i₀ : Fin C) (hz : z (ix2 b c) = 0#32)
    (hpick : ∀ i : Fin C, i ≠ i₀ → col b.val i.val = c.val → val b.val i.val = 0) :
    Host.scatter d IntOp.addi z idx upd (ix2 b c) = BitVec.ofNat 32 (if col b.val i₀.val = c.val then val b.val i₀.val else 0) := by
  have hCpos : 0 < C := Nat.lt_of_le_of_lt (Nat.zero_le _) c.isLt
  have hnum : (shape2 R C).numel = R * C := by
    show ∏ a : Fin 2, (![R, C] : Fin 2 → Nat) a = R * C
    rw [Fin.prod_univ_two]; rfl
  have hlt : ∀ n : Fin (shape2 R C).numel, n.val < R * C := fun n => (n.cast hnum).isLt
  have hdiv : ∀ n : Fin (shape2 R C).numel, n.val / C < R := fun n => Nat.div_lt_of_lt_mul (by rw [Nat.mul_comm]; exact hlt n)
  have hmod : ∀ n : Fin (shape2 R C).numel, n.val % C < C := fun n => Nat.mod_lt _ hCpos
  have lands : ∀ (a : Fin R) (i : Fin C), d.resultIdx? (ix2 a i) idx = some (ix2 b c) ↔ a.val = b.val ∧ col a.val i.val = c.val := by
    intro a i
    rw [scatter_lands2 d hiw hsd hivd, h0, h1, WordCmp.toInt_ofNat_of_lt (by have := a.isLt; omega),
      WordCmp.toInt_ofNat_of_lt (hcol a i)]
    omega
  let g : Fin (shape2 R C).numel → ℕ := fun n =>
    if n.val / C = b.val ∧ col (n.val / C) (n.val % C) = c.val then val (n.val / C) (n.val % C) else 0
  rw [scatter_at]
  refine (List.foldl_ext _ (fun r n => IntOp.addi r (BitVec.ofNat 32 (g n))) _ fun r n _ => ?_).trans ?_
  · rw [symm22 n (hdiv n) (hmod n)]
    by_cases hl : n.val / C = b.val ∧ col (n.val / C) (n.val % C) = c.val
    · rw [if_pos ((lands ⟨_, hdiv n⟩ ⟨_, hmod n⟩).2 hl), hu]
      show _ = IntOp.addi r (BitVec.ofNat 32 (g n))
      rw [show g n = val (n.val / C) (n.val % C) from if_pos hl]
    · rw [if_neg fun h => hl ((lands ⟨_, hdiv n⟩ ⟨_, hmod n⟩).1 h), show g n = 0 from if_neg hl]
      exact (BitVec.add_zero r).symm
  · refine (foldl_addi_ofNat _ _ g (fun _ _ => rfl) _ 0 hz).trans ?_
    rw [Nat.zero_add, ← Fin.sum_univ_def]
    refine congrArg (BitVec.ofNat 32) ?_
    have hi := i₀.isLt
    have hlt0 : b.val * C + i₀.val < (shape2 R C).numel := by
      rw [hnum]
      calc b.val * C + i₀.val < b.val * C + C := by omega
        _ = (b.val + 1) * C := by rw [Nat.add_mul, Nat.one_mul]
        _ ≤ R * C := Nat.mul_le_mul_right _ b.isLt
    have hd : (b.val * C + i₀.val) / C = b.val := by
      rw [Nat.add_comm, Nat.add_mul_div_right _ _ hCpos, Nat.div_eq_of_lt hi, Nat.zero_add]
    have hm : (b.val * C + i₀.val) % C = i₀.val := by
      rw [Nat.add_comm, Nat.add_mul_mod_self_right, Nat.mod_eq_of_lt hi]
    rw [Finset.sum_eq_single (⟨b.val * C + i₀.val, hlt0⟩ : Fin (shape2 R C).numel)]
    · show (if (b.val * C + i₀.val) / C = b.val ∧ col ((b.val * C + i₀.val) / C) ((b.val * C + i₀.val) % C) = c.val
        then val ((b.val * C + i₀.val) / C) ((b.val * C + i₀.val) % C) else 0) = _
      rw [hd, hm]
      simp only [true_and]
    · intro n _ hne
      show (if n.val / C = b.val ∧ col (n.val / C) (n.val % C) = c.val then val (n.val / C) (n.val % C) else 0) = 0
      split
      · next hl =>
        obtain ⟨e, hl⟩ := hl
        rw [e] at hl ⊢
        refine hpick ⟨n.val % C, hmod n⟩ (fun he => hne (Fin.ext ?_)) hl
        have he' : n.val % C = i₀.val := congrArg Fin.val he
        show n.val = b.val * C + i₀.val
        rw [← he', ← e]
        exact (Nat.div_add_mod' n.val C).symm
      · rfl
    · intro h; exact absurd (Finset.mem_univ _) h

/-- A list entry by the list and the place. -/
theorem entry_eq {n : Nat} (l m : List (Fin n)) (hl : l = m) (k i : ℕ) (hk : k < l.length) (hi : i < m.length) (e : k = i) :
    getElem l k hk = getElem m i hi := by
  subst hl
  subst e
  rfl

/-- A gather of scalars out of a matrix by pairs of row and column reads the element its pair names. -/
theorem gather_pair {α : Type} {R C A B : Nat} (d : GatherDims (shape2 R C) (shape3 A B 2) (shape2 A B)) (hoff : d.offsetDims = [])
    (hcoll : d.collapsedSliceDims = [0, 1]) (hob : d.operandBatchingDims = []) (hsim : d.startIndexMap = [0, 1])
    (hivd : d.indexVectorDim = 2) (x : (shape2 R C).Idx → α) (idx : IVec (shape3 A B 2) 32) (hR : R ≤ 2 ^ 31) (hC : C ≤ 2 ^ 31)
    (a : Fin A) (b : Fin B) (r : Fin R) (c : Fin C) (h0 : idx (ix3 a b 0) = BitVec.ofNat 32 r.val)
    (h1 : idx (ix3 a b 1) = BitVec.ofNat 32 c.val) : Host.gather d x idx (ix2 a b) = x (ix2 r c) := by
  unfold Host.gather
  refine congrArg x (funext fun q => Fin.ext ?_)
  have hkept : d.siKept = [0, 1] := by
    show (List.finRange 3).filter (fun y => decide (y.val ≠ d.indexVectorDim)) = _
    rw [hivd]; rfl
  have hbat : d.batchDims = [0, 1] := by
    show (shape2 A B).kept d.offsetDims = _
    rw [hoff]; rfl
  have hb : ∀ q : Fin 2, q ∉ d.operandBatchingDims := fun q => by rw [hob]; exact List.not_mem_nil
  have hk : ∀ q : Fin 2, q ∉ d.sKept := fun q h => ((d.mem_sKept q).1 h).1 (by rw [hcoll]; fin_cases q <;> simp)
  have hm : ∀ q : Fin 2, q ∈ d.startIndexMap := fun q => by rw [hsim]; fin_cases q <;> simp
  have hsl : ∀ q : Fin 2, d.sliceSizes q = 1 := fun q => d.slice_collapsed q (by rw [hcoll]; fin_cases q <;> simp)
  have hsi : ∀ q : Fin 2, d.siIdx (ix2 a b) ⟨d.startIndexMap.idxOf q, List.idxOf_lt_length_iff.2 (hm q)⟩ = ix3 a b q := fun q => by
    funext e
    apply Fin.ext
    match e with
    | ⟨0, _⟩ =>
      unfold GatherDims.siIdx
      rw [dif_neg (by rw [hivd]; exact (by decide : (0 : ℕ) ≠ 2))]
      unfold GatherDims.siCoord
      simp only [Fin.val_cast]
      rw [entry_eq _ [0, 1] hbat _ 0 _ (by simp) (by rw [hkept]; rfl)]
      rfl
    | ⟨1, _⟩ =>
      unfold GatherDims.siIdx
      rw [dif_neg (by rw [hivd]; exact (by decide : (1 : ℕ) ≠ 2))]
      unfold GatherDims.siCoord
      simp only [Fin.val_cast]
      rw [entry_eq _ [0, 1] hbat _ 1 _ (by simp) (by rw [hkept]; rfl)]
      rfl
    | ⟨2, _⟩ =>
      unfold GatherDims.siIdx
      rw [dif_pos (by rw [hivd])]
      show List.idxOf q d.startIndexMap = q.val
      rw [hsim]
      fin_cases q <;> rfl
  show d.start (ix2 a b) idx q + d.batchCoord (ix2 a b) q + d.offCoord (ix2 a b) q = (ix2 r c q).val
  rw [d.batchCoord_eq_zero _ _ (hb q), d.offCoord_eq_zero _ _ (hk q)]
  unfold GatherDims.start
  rw [dif_pos (hm q), hsi, hsl]
  have hr := r.isLt
  have hc := c.isLt
  match q with
  | ⟨0, _⟩ =>
    show min (idx (ix3 a b 0)).toInt.toNat (R - 1) + 0 + 0 = r.val
    rw [h0, WordCmp.toInt_ofNat_of_lt (by omega)]
    omega
  | ⟨1, _⟩ =>
    show min (idx (ix3 a b 1)).toInt.toNat (C - 1) + 0 + 0 = c.val
    rw [h1, WordCmp.toInt_ofNat_of_lt (by omega)]
    omega

/-- A gather of whole rows of a matrix, one row number for each of `A × B` places, reads the row its number names. -/
theorem gather_rows {α : Type} {N L A B : Nat} (d : GatherDims (shape2 N L) (shape3 A B 1) (shape3 A B L)) (hoff : d.offsetDims = [2])
    (hcoll : d.collapsedSliceDims = [0]) (hob : d.operandBatchingDims = []) (hsim : d.startIndexMap = [0])
    (hivd : d.indexVectorDim = 2) (x : (shape2 N L).Idx → α) (idx : IVec (shape3 A B 1) 32) (hN : N ≤ 2 ^ 31)
    (a : Fin A) (b : Fin B) (l : Fin L) (p : Fin N) (h : idx (ix3 a b 0) = BitVec.ofNat 32 p.val) :
    Host.gather d x idx (ix3 a b l) = x (ix2 p l) := by
  unfold Host.gather
  refine congrArg x (funext fun q => Fin.ext ?_)
  have hkept : d.siKept = [0, 1] := by
    show (List.finRange 3).filter (fun y => decide (y.val ≠ d.indexVectorDim)) = _
    rw [hivd]; rfl
  have hbat : d.batchDims = [0, 1] := by
    show (shape3 A B L).kept d.offsetDims = _
    rw [hoff]; rfl
  have hb : ∀ q : Fin 2, q ∉ d.operandBatchingDims := fun q => by rw [hob]; exact List.not_mem_nil
  match q with
  | ⟨0, _⟩ =>
    have hk : (0 : Fin 2) ∉ d.sKept := fun h => ((d.mem_sKept 0).1 h).1 (by rw [hcoll]; simp)
    have hm : (0 : Fin 2) ∈ d.startIndexMap := by rw [hsim]; simp
    have hsl : d.sliceSizes 0 = 1 := d.slice_collapsed 0 (by rw [hcoll]; simp)
    have hsi : d.siIdx (ix3 a b l) ⟨d.startIndexMap.idxOf 0, List.idxOf_lt_length_iff.2 hm⟩ = ix3 a b 0 := by
      funext e
      apply Fin.ext
      match e with
      | ⟨0, _⟩ =>
        unfold GatherDims.siIdx
        rw [dif_neg (by rw [hivd]; exact (by decide : (0 : ℕ) ≠ 2))]
        unfold GatherDims.siCoord
        simp only [Fin.val_cast]
        rw [entry_eq _ [0, 1] hbat _ 0 _ (by simp) (by rw [hkept]; rfl)]
        rfl
      | ⟨1, _⟩ =>
        unfold GatherDims.siIdx
        rw [dif_neg (by rw [hivd]; exact (by decide : (1 : ℕ) ≠ 2))]
        unfold GatherDims.siCoord
        simp only [Fin.val_cast]
        rw [entry_eq _ [0, 1] hbat _ 1 _ (by simp) (by rw [hkept]; rfl)]
        rfl
      | ⟨2, _⟩ =>
        unfold GatherDims.siIdx
        rw [dif_pos (by rw [hivd])]
        show List.idxOf (0 : Fin 2) d.startIndexMap = 0
        rw [hsim]
        rfl
    show d.start (ix3 a b l) idx 0 + d.batchCoord (ix3 a b l) 0 + d.offCoord (ix3 a b l) 0 = p.val
    rw [d.batchCoord_eq_zero _ _ (hb 0), d.offCoord_eq_zero _ _ hk]
    unfold GatherDims.start
    have hp := p.isLt
    rw [dif_pos hm, hsi, hsl, h, WordCmp.toInt_ofNat_of_lt (by omega)]
    show min ((p.val : ℤ)).toNat (N - 1) + 0 + 0 = p.val
    omega
  | ⟨1, _⟩ =>
    have hk : (1 : Fin 2) ∈ d.sKept := (d.mem_sKept 1).2 ⟨by rw [hcoll]; simp, hb 1⟩
    have hm : (1 : Fin 2) ∉ d.startIndexMap := by rw [hsim]; simp
    have hsk : d.sKept = [1] := by
      show (shape2 N L).kept (d.collapsedSliceDims ++ d.operandBatchingDims) = _
      rw [hcoll, hob]; rfl
    show d.start (ix3 a b l) idx 1 + d.batchCoord (ix3 a b l) 1 + d.offCoord (ix3 a b l) 1 = l.val
    rw [d.batchCoord_eq_zero _ _ (hb 1)]
    unfold GatherDims.start GatherDims.offCoord
    rw [dif_neg hm, dif_pos hk, entry_eq _ [2] hoff _ 0 _ (by simp) (by rw [hsk]; rfl)]
    show 0 + 0 + l.val = l.val
    omega

end Cert.Proof.Embed
-- ==== Proof.Facts.lean ====
module

public import proofs.«01_k».proof.Proof.Spec
public import proofs.«01_k».proof.Proof.Values
public import proofs.«01_k».proof.Proof.Ring
public import Idealize.ShloMosaic.Lib.WordCmp
public import Idealize.ShloMosaic.Lib.Tactic.WordOmega

@[expose] public section

noncomputable section

namespace Cert.Proof.Embed

open Cert.KernelIdeal Cert.KernelIdeal.Gen
open Idealize.ShloMosaic Idealize.ShloMosaic.WordCmp

/-! ## Words that hold small numbers -/

/-- The signed maximum of two small words holds the maximum. -/
theorem maxsi_word {a b : ℕ} (ha : a < 2 ^ 31) (hb : b < 2 ^ 31) :
    IntOp.maxsi (BitVec.ofNat 32 a) (BitVec.ofNat 32 b) = BitVec.ofNat 32 (max a b) := by
  have e : (BitVec.ofNat 32 b).slt (BitVec.ofNat 32 a) = decide (b < a) := by
    unfold BitVec.slt
    rw [toInt_ofNat_of_lt (w := 32) ha, toInt_ofNat_of_lt (w := 32) hb]
    exact decide_eq_decide.2 Int.ofNat_lt
  unfold IntOp.maxsi
  rw [e]
  by_cases h : b < a
  · simp [h, Nat.max_eq_left h.le]
  · simp [h, Nat.max_eq_right (Nat.le_of_not_lt h)]

/-- Below a power of two, taking its bit by exclusive or adds it. -/
theorem xor_pow {a n : ℕ} (ha : a < 2 ^ n) : 2 ^ n ^^^ a = 2 ^ n + a := by
  refine Nat.eq_of_testBit_eq fun k => ?_
  rw [Nat.testBit_xor, Nat.testBit_two_pow]
  rcases Nat.lt_trichotomy k n with h | rfl | h
  · rw [Nat.testBit_two_pow_add_gt h, decide_eq_false (by omega), Bool.false_xor]
  · rw [Nat.testBit_two_pow_add_eq, decide_eq_true rfl, Bool.true_xor]
  · have h2 : 2 ^ (n + 1) ≤ 2 ^ k := Nat.pow_le_pow_right (by decide) h
    rw [Nat.pow_succ] at h2
    rw [Nat.testBit_lt_two_pow (by omega), Nat.testBit_lt_two_pow (by omega), decide_eq_false (by omega)]
    rfl

/-- The signed minimum of two small words holds the minimum. -/
theorem minsi_word {a b : ℕ} (ha : a < 2 ^ 31) (hb : b < 2 ^ 31) :
    IntOp.minsi (BitVec.ofNat 32 a) (BitVec.ofNat 32 b) = BitVec.ofNat 32 (min a b) := by
  have e : (BitVec.ofNat 32 a).slt (BitVec.ofNat 32 b) = decide (a < b) := by
    unfold BitVec.slt
    rw [toInt_ofNat_of_lt (w := 32) ha, toInt_ofNat_of_lt (w := 32) hb]
    exact decide_eq_decide.2 Int.ofNat_lt
  unfold IntOp.minsi
  rw [e]
  by_cases h : a < b
  · simp [h, Nat.min_eq_left h.le]
  · simp [h, Nat.min_eq_right (Nat.le_of_not_lt h)]

/-- A small word with its sign bit flipped holds the number `2 ^ 31` above. -/
theorem flip_word {a : ℕ} (ha : a < 2 ^ 31) : BitVec.ofNat 32 a ^^^ 2147483648#32 = BitVec.ofNat 32 (a + 2 ^ 31) := by
  apply BitVec.eq_of_toNat_eq
  rw [BitVec.toNat_xor, BitVec.toNat_ofNat, BitVec.toNat_ofNat, BitVec.toNat_ofNat, Nat.mod_eq_of_lt (by omega : a < 2 ^ 32),
    Nat.mod_eq_of_lt (by omega : a + 2 ^ 31 < 2 ^ 32), Nat.mod_eq_of_lt (by norm_num : 2147483648 < 2 ^ 32), Nat.xor_comm, Nat.add_comm]
  exact xor_pow ha

/-- Flipping the sign bit back. -/
theorem unflip_word {a : ℕ} (ha : a < 2 ^ 31) : BitVec.ofNat 32 (a + 2 ^ 31) ^^^ 2147483648#32 = BitVec.ofNat 32 a := by
  rw [← flip_word ha, BitVec.xor_assoc, BitVec.xor_self, BitVec.xor_zero]

/-- The unsigned maximum of two flipped words is the flipped maximum. -/
theorem maxui_flip {a b : ℕ} (ha : a < 2 ^ 31) (hb : b < 2 ^ 31) :
    IntOp.maxui (BitVec.ofNat 32 (a + 2 ^ 31)) (BitVec.ofNat 32 (b + 2 ^ 31)) = BitVec.ofNat 32 (max a b + 2 ^ 31) := by
  have e : (BitVec.ofNat 32 (b + 2 ^ 31)).ult (BitVec.ofNat 32 (a + 2 ^ 31)) = decide (b < a) := by
    unfold BitVec.ult
    rw [toNat_ofNat_of_lt (by omega : a + 2 ^ 31 < 2 ^ 32), toNat_ofNat_of_lt (by omega : b + 2 ^ 31 < 2 ^ 32)]
    exact decide_eq_decide.2 (by omega)
  unfold IntOp.maxui
  rw [e]
  by_cases h : b < a
  · simp [h, Nat.max_eq_left h.le]
  · simp [h, Nat.max_eq_right (Nat.le_of_not_lt h)]

/-! ## The running maximum along the lanes -/

/-- The lanes up to the next lane: those up to this one, and it. -/
theorem lanes_succ (j : Fin 15) : (List.finRange 16).filter (fun k => decide (0 < k.val ∧ k.val ≤ j.val + 1))
    = (List.finRange 16).filter (fun k => decide (0 < k.val ∧ k.val ≤ j.val)) ++ [⟨j.val + 1, by omega⟩] := by
  revert j; decide

/-- The fold of the unsigned maximum over the lanes up to lane `j` of flipped words. -/
theorem fold_lanes (y : Fin 16 → BitVec 32) (g : ℕ → ℕ) (hg : ∀ k, g k < 2 ^ 31) (hy : ∀ k, y k = BitVec.ofNat 32 (g k.val + 2 ^ 31)) (j : ℕ) (hj : j < 16) :
    ((List.finRange 16).filter fun k => decide (0 < k.val ∧ k.val ≤ j)).foldl (fun a k => IntOp.maxui a (y k)) (y 0)
      = BitVec.ofNat 32 (mx g 0 (j + 1) + 2 ^ 31) := by
  induction j with
  | zero =>
    have : (List.finRange 16).filter (fun k => decide (0 < k.val ∧ k.val ≤ 0)) = [] := by decide
    rw [this, List.foldl_nil, hy]
    simp [mx]
  | succ j ih =>
    rw [lanes_succ ⟨j, by omega⟩, List.foldl_append, ih (by omega), List.foldl_cons, List.foldl_nil, hy,
      maxui_flip (lt_of_le_of_lt (mx_le g 0 (j + 1) (2 ^ 31 - 1) fun k _ => Nat.le_sub_one_of_lt (hg _)) (by norm_num)) (hg _)]
    show BitVec.ofNat 32 (max (mx g 0 (j + 1)) (g (j + 1)) + 2 ^ 31) = BitVec.ofNat 32 (max (mx g 0 (j + 1)) (g (0 + (j + 1))) + 2 ^ 31)
    rw [Nat.zero_add]

/-- The running maximum at a lane holds the greatest of the numbers up to it. -/
theorem cumV_word (x : IVec S16 32) (g : ℕ → ℕ) (hg : ∀ k, g k < 2 ^ 31) (hx : ∀ l : S16.Idx, x l = BitVec.ofNat 32 (g (l 0).val)) (l : S16.Idx) :
    cumV x l = BitVec.ofNat 32 (mx g 0 ((l 0).val + 1)) := by
  have hl : (l 0).val < 16 := (l 0).isLt
  have h := fold_lanes (fun k => x (Shape.ofLane k) ^^^ 2147483648#32) g hg (fun k => by rw [hx]; exact flip_word (hg _)) (l 0).val hl
  show IntOp.xori (scan .max (xori x (broadcast S16 2147483648#32)) l) 2147483648#32 = _
  refine (congrArg (fun w => IntOp.xori w 2147483648#32) (show scan .max (xori x (broadcast S16 2147483648#32)) l = _ from h)).trans ?_
  exact unflip_word (lt_of_le_of_lt (mx_le g 0 _ (2 ^ 31 - 1) fun k _ => Nat.le_sub_one_of_lt (hg _)) (by norm_num))

/-- The last lane holds the greatest of all. -/
theorem lastV_word (x : IVec S16 32) (g : ℕ → ℕ) (hg : ∀ k, g k < 2 ^ 31) (hx : ∀ l : S16.Idx, x l = BitVec.ofNat 32 (g (l 0).val)) :
    lastV x = BitVec.ofNat 32 (mx g 0 16) := cumV_word x g hg hx _

/-! ## The masks -/

/-- The digit mask reads as the predicate. -/
theorem digitM_word (t : IVec S16 32) (l : S16.Idx) : digitM t l = BitVec.ofBool (decide (Dig (t l))) := by
  show IntOp.ori (IntOp.cmpi .eq (t l) 1#32) (IntOp.andi (IntOp.cmpi .sge (t l) 17#32) (IntOp.cmpi .sle (t l) 26#32)) = _
  rw [cmpi_eq_eq_toNat, cmpi_sge_eq, cmpi_sle_eq, andi_ofBool, ori_ofBool, ← Bool.decide_and, ← Bool.decide_or]
  congr 1
  refine decide_eq_decide.2 ?_
  have := (t l).isLt
  unfold Dig
  rw [show (17#32).toInt = 17 from rfl, show (26#32).toInt = 26 from rfl, show (1#32).toNat = 1 from rfl, BitVec.toInt_eq_toNat_cond]
  split <;> omega

/-- The operand mask reads as the predicate. -/
theorem operandM_word (t : IVec S16 32) (l : S16.Idx) : operandM t l = BitVec.ofBool (decide (Opd (t l))) := by
  show IntOp.ori (IntOp.ori (digitM t l) (IntOp.cmpi .eq (t l) 12#32)) (IntOp.cmpi .eq (t l) 30#32) = _
  rw [digitM_word, cmpi_eq_eq_toNat, cmpi_eq_eq_toNat, ori_ofBool, ori_ofBool, ← Bool.decide_or, ← Bool.decide_or]
  congr 1
  refine decide_eq_decide.2 ?_
  unfold Opd
  exact or_assoc

/-! ## The tile's numbers -/

section Tile

variable (ids : S4x8192.Idx → BitVec 32) (i : grid0.Coords)

theorem coord1_lt : (i 1).val < 16 := (i 1).isLt

theorem chunk_words : ∀ s < 16, Scalar.andi (BitVec.ofNat 32 s) 7#32 = BitVec.ofNat 32 (s % 8) := by decide

theorem chunkB_word : chunkB i = BitVec.ofNat 32 ((i 1).val % 8) := chunk_words _ (coord1_lt i)

theorem baseB_word : baseB i = BitVec.ofNat 32 (baseN i) := by
  unfold baseB baseN
  rw [chunkB_word]
  show IntOp.muli _ (BitVec.ofNat 32 1024) = _
  rw [muli_ofNat, Nat.mul_comm]

theorem lane_word (l : S16.Idx) : lane l = BitVec.ofNat 32 (l 0).val := by
  show BitVec.ofNat 32 (0 * 16 + (l 0).val) = _
  rw [Nat.zero_mul, Nat.zero_add]

theorem gidx_word (v : ℕ) (l : S16.Idx) : gidx i v l = BitVec.ofNat 32 (baseN i + 16 * v + (l 0).val) := by
  show IntOp.addi (IntOp.addi (baseB i) (BitVec.ofNat 32 (16 * v))) (lane l) = _
  rw [baseB_word, lane_word, addi_ofNat, addi_ofNat]

theorem baseN_le : baseN i ≤ 7168 := by unfold baseN; omega

/-- The predecessor's mask: none at the row's first index. -/
theorem prevM_word (v : ℕ) (prev : IVec S16 32) (l : S16.Idx) :
    prevM i v prev l = BitVec.ofBool (decide (baseN i + 16 * v + (l 0).val ≠ 0 ∧ Dig (prev l))) := by
  have hl : (l 0).val < 16 := (l 0).isLt
  have hi := coord1_lt i
  have hb : baseN i = 1024 * ((i 1).val % 8) := rfl
  cases v with
  | zero =>
    show IntOp.andi (digitM prev l) (IntOp.xori (IntOp.andi (IntOp.cmpi .eq (lane l) 0#32) (IntOp.cmpi .eq (chunkB i) 0#32)) 1#1) = _
    rw [digitM_word, lane_word, chunkB_word, show (0#32) = BitVec.ofNat 32 0 from rfl, cmpi_eq_ofNat (by omega) (by omega), cmpi_eq_ofNat (by omega) (by omega), andi_ofBool,
      show (1#1) = BitVec.ofBool true from rfl, xori_ofBool, andi_ofBool]
    congr 1
    rw [Bool.eq_iff_iff]
    simp only [Bool.and_eq_true, decide_eq_true_eq, Bool.xor_true, Bool.not_eq_true', Bool.and_eq_false_iff, decide_eq_false_iff_not]
    constructor
    · exact fun h => ⟨by omega, h.1⟩
    · exact fun h => ⟨h.2, by omega⟩
  | succ v =>
    show digitM prev l = _
    rw [digitM_word]
    congr 1
    refine decide_eq_decide.2 ?_
    constructor
    · exact fun h => ⟨by omega, h⟩
    · exact fun h => h.2

/-- A group's starts. -/
theorem startF_word (v : ℕ) (l : S16.Idx) :
    startF ids i v l = BitVec.ofNat 32 (st (at2 ids (rowN i)) (baseN i + 16 * v + (l 0).val)) := by
  have hl : (l 0).val < 16 := (l 0).isLt
  have hcur : curF ids i v l = at2 ids (rowN i) (baseN i + 16 * v + (l 0).val) := by
    unfold curF idsN
    rw [if_neg (by omega)]
    congr 1
    omega
  have hprev : baseN i + 16 * v + (l 0).val ≠ 0 → prevF ids i v l = at2 ids (rowN i) (baseN i + 16 * v + (l 0).val - 1) := by
    intro h
    have hb : baseN i = 1024 * ((i 1).val % 8) := rfl
    unfold prevF idsN
    split
    · congr 1; omega
    · congr 1; omega
  show Scalar.select (IntOp.andi (digitM (curF ids i v) l) (IntOp.xori (prevM i v (prevF ids i v) l) 1#1)) (gidx i v l) 0#32 = _
  rw [digitM_word, prevM_word, gidx_word, show (1#1) = BitVec.ofBool true from rfl, xori_ofBool, andi_ofBool, hcur]
  unfold Scalar.select st
  rw [apply_ite (BitVec.ofNat 32)]
  refine if_congr ?_ rfl rfl
  rw [ofBool_eq_one_iff']
  unfold IsStart
  by_cases h : baseN i + 16 * v + (l 0).val = 0
  · simp [h]
  · rw [hprev h]
    simp only [h, false_or, ne_eq, not_false_eq_true, true_and, Bool.and_eq_true, decide_eq_true_eq, Bool.xor_true, Bool.not_eq_true', decide_eq_false_iff_not]

theorem st_lt (n : ℕ) (h : n < 2 ^ 31) : st (at2 ids (rowN i)) n < 2 ^ 31 := lt_of_le_of_lt (st_le _ _) h

/-- The carried maximum before a group: the last start of the chunk before it, 0 if none. -/
theorem carryF_word (v : ℕ) (hv : v ≤ 64) : carryF ids i v = BitVec.ofNat 32 (mx (st (at2 ids (rowN i))) (baseN i) (16 * v)) := by
  have hb := baseN_le i
  induction v with
  | zero => rfl
  | succ v ih =>
    have e : lastV (startF ids i v) = BitVec.ofNat 32 (mx (st (at2 ids (rowN i))) (baseN i + 16 * v) 16) := by
      rw [lastV_word (startF ids i v) (fun k => if k < 16 then st (at2 ids (rowN i)) (baseN i + 16 * v + k) else 0)
        (fun k => by split
                     · exact st_lt ids i _ (by omega)
                     · norm_num)
        (fun l => by rw [startF_word, if_pos (show (l 0).val < 16 from (l 0).isLt)]), ← mx_shift (st _) (baseN i + 16 * v) 16]
      rfl
    show IntOp.maxsi (carryF ids i v) (lastV (startF ids i v)) = _
    rw [ih (by omega), e, maxsi_word (lt_of_le_of_lt (mx_st_le _ _ _ 8191 (by omega)) (by norm_num)) (lt_of_le_of_lt (mx_st_le _ _ _ 8191 (by omega)) (by norm_num)),
      ← mx_add, Nat.mul_succ]

/-- The running maximum at the chunk's index `n`: the last start of the chunk up to it. -/
theorem cmN_word (n : ℕ) (hn : n < 1024) : cmN ids i n = BitVec.ofNat 32 (mx (st (at2 ids (rowN i))) (baseN i) (n + 1)) := by
  have hb := baseN_le i
  have e : cumV (startF ids i (n / 16)) (ln n) = BitVec.ofNat 32 (mx (st (at2 ids (rowN i))) (baseN i + 16 * (n / 16)) (n % 16 + 1)) := by
    rw [cumV_word (startF ids i (n / 16)) (fun k => if k < 16 then st (at2 ids (rowN i)) (baseN i + 16 * (n / 16) + k) else 0)
      (fun k => by split
                   · exact st_lt ids i _ (by omega)
                   · norm_num)
      (fun l => by rw [startF_word, if_pos (show (l 0).val < 16 from (l 0).isLt)]) (ln n), ← mx_shift (st _) (baseN i + 16 * (n / 16))]
    congr 1
    exact mx_congr _ _ _ _ fun k hk => by
      have : k ≤ n % 16 := Nat.lt_succ_iff.1 hk
      rw [if_pos (by omega)]
  show IntOp.maxsi (cumV (startF ids i (n / 16)) (ln n)) (carryF ids i (n / 16)) = _
  rw [e, carryF_word ids i (n / 16) (by omega), maxsi_word (lt_of_le_of_lt (mx_st_le _ _ _ 8191 (by omega)) (by norm_num))
    (lt_of_le_of_lt (mx_st_le _ _ _ 8191 (by omega)) (by norm_num)), Nat.max_comm, ← mx_add]
  congr 2
  omega

/-- The operand mask at the chunk's index `n`. -/
theorem omN_word (n : ℕ) : omN ids i n = BitVec.ofNat 32 (if Opd (at2 ids (rowN i) (baseN i + n)) then 1 else 0) := by
  show Scalar.select (operandM (curF ids i (n / 16)) (ln n)) 1#32 0#32 = _
  have hcur : curF ids i (n / 16) (ln n) = at2 ids (rowN i) (baseN i + n) := by
    show idsN ids i (16 + 16 * (n / 16) + n % 16) = _
    unfold idsN
    rw [if_neg (by omega)]
    congr 1
    omega
  rw [operandM_word, hcur]
  unfold Scalar.select
  rw [apply_ite (BitVec.ofNat 32)]
  exact if_congr (ofBool_eq_one_iff' _ |>.trans decide_eq_true_iff) rfl rfl

theorem rowN_tileAt (c h j : ℕ) (hc : c < 2) (hh : h < 2) (hj : j < 8) : rowN (tileAt c h j) = 2 * c + h := by
  show 2 * (c % 2) + (8 * h + j) % 16 / 8 = _
  omega

theorem baseN_tileAt (c h j : ℕ) (hh : h < 2) (hj : j < 8) : baseN (tileAt c h j) = 1024 * j := by
  show 1024 * ((8 * h + j) % 16 % 8) = _
  omega

/-- The maximum of a chunk. -/
theorem maxN_word (c h j : ℕ) (hc : c < 2) (hh : h < 2) (hj : j < 8) :
    maxN ids c h j = BitVec.ofNat 32 (mx (st (at2 ids (2 * c + h))) (1024 * j) 1024) := by
  have e := carryF_word ids (tileAt c h j) 64 le_rfl
  rw [rowN_tileAt c h j hc hh hj, baseN_tileAt c h j hh hj, show 16 * 64 = 1024 from rfl] at e
  exact e

/-- The maximum of a vector all of whose lanes hold one number. -/
theorem lastV_const (a : ℕ) (ha : a < 2 ^ 31) : lastV (fun _ => BitVec.ofNat 32 a) = BitVec.ofNat 32 a := by
  rw [lastV_word _ (fun _ => a) (fun _ => ha) fun _ => rfl]
  exact congrArg (BitVec.ofNat 32) (le_antisymm (mx_le (fun _ => a) 0 16 a fun _ _ => le_rfl) (le_mx (fun _ => a) 0 16 0 (by norm_num)))

/-- The last start of the row before the tile's chunk, of the first `j` chunks. -/
theorem cinF_word (j : ℕ) (hj : j ≤ 7) : cinF ids i j = BitVec.ofNat 32 (mx (st (at2 ids (rowN i))) 0 (1024 * min j ((i 1).val % 8))) := by
  have h1 := coord1_lt i
  have h0 : (i 0).val < 2 := (i 0).isLt
  induction j with
  | zero => rw [Nat.zero_min]; rfl
  | succ j ih =>
    have hm : lastV (fun _ => maxN ids (i 0).val ((i 1).val / 8) j) = BitVec.ofNat 32 (mx (st (at2 ids (rowN i))) (1024 * j) 1024) := by
      rw [maxN_word ids _ _ _ h0 (by omega) (by omega)]
      exact lastV_const _ (lt_of_le_of_lt (mx_st_le _ _ _ 8191 (by omega)) (by norm_num))
    show Scalar.select (IntOp.cmpi .sgt (chunkB i) (BitVec.ofNat 32 j)) (IntOp.maxsi (cinF ids i j) (lastV fun _ => maxN ids (i 0).val ((i 1).val / 8) j)) (cinF ids i j) = _
    rw [hm, ih (by omega), chunkB_word, cmpi_sgt_ofNat (by omega) (by omega), select_decide,
      maxsi_word (lt_of_le_of_lt (mx_st_le _ _ _ 8191 (by omega)) (by norm_num)) (lt_of_le_of_lt (mx_st_le _ _ _ 8191 (by omega)) (by norm_num))]
    split
    · next h =>
      have := mx_add (st (at2 ids (rowN i))) 0 (1024 * j) 1024
      rw [Nat.zero_add] at this
      rw [Nat.min_eq_left (by omega), Nat.min_eq_left (by omega), Nat.mul_succ, this]
    · next h => rw [Nat.min_eq_right (by omega), Nat.min_eq_right (by omega)]

/-- The running maximum over the whole row: the chunk's and that of the chunks before. -/
theorem last_word (n : ℕ) (hn : n < 1024) :
    IntOp.maxsi (cmN ids i n) (cinF ids i 7) = BitVec.ofNat 32 (last (at2 ids (rowN i)) (baseN i + n)) := by
  have hb := baseN_le i
  have h1 := coord1_lt i
  rw [cmN_word ids i n hn, cinF_word ids i 7 le_rfl, Nat.min_eq_right (by omega),
    maxsi_word (lt_of_le_of_lt (mx_st_le _ _ _ 8191 (by omega)) (by norm_num)) (lt_of_le_of_lt (mx_st_le _ _ _ 8191 (by omega)) (by norm_num)), Nat.max_comm]
  have := mx_add (st (at2 ids (rowN i))) 0 (baseN i) (n + 1)
  rw [Nat.zero_add] at this
  exact congrArg (BitVec.ofNat 32) this.symm

/-- The row that the place at the chunk's index `n` asks for: the row of NaNs past the table's end, one of the copies of row 0 for position 0, else the position's. -/
theorem posN_word (n : ℕ) (hn : n < 1024) :
    posN ids i n = BitVec.ofNat 32 (if 1023 < pos (at2 ids (rowN i)) (baseN i + n) then 1040
      else if pos (at2 ids (rowN i)) (baseN i + n) = 0 then 1024 + n % 16 else pos (at2 ids (rowN i)) (baseN i + n)) := by
  have hb := baseN_le i
  have hl := last_le (at2 ids (rowN i)) (baseN i + n)
  have hg : gidx i (n / 16) (ln n) = BitVec.ofNat 32 (baseN i + n) := by
    rw [gidx_word]
    congr 1
    show baseN i + 16 * (n / 16) + n % 16 = _
    omega
  have hn' : 16 * (n / 16) + n % 16 = n := Nat.div_add_mod n 16
  have hp : IntOp.muli (IntOp.addi (IntOp.subi (gidx i (n / 16) (ln n)) (IntOp.maxsi (cmN ids i (16 * (n / 16) + n % 16)) (cinF ids i 7))) 1#32)
      (omN ids i (16 * (n / 16) + n % 16)) = BitVec.ofNat 32 (pos (at2 ids (rowN i)) (baseN i + n)) := by
    rw [hn', last_word ids i n hn, omN_word, hg, show IntOp.subi (BitVec.ofNat 32 (baseN i + n)) (BitVec.ofNat 32 (last (at2 ids (rowN i)) (baseN i + n)))
      = BitVec.ofNat 32 (baseN i + n - last (at2 ids (rowN i)) (baseN i + n)) from (BitVec.ofNat_sub_ofNat_of_le _ _ (by omega) hl), show (1#32) = BitVec.ofNat 32 1 from rfl, addi_ofNat, muli_ofNat]
    congr 1
    unfold pos
    split <;> omega
  have hple := pos_le (at2 ids (rowN i)) (baseN i + n)
  show Scalar.select (IntOp.cmpi .sgt (IntOp.muli (IntOp.addi (IntOp.subi (gidx i (n / 16) (ln n)) (IntOp.maxsi (cmN ids i (16 * (n / 16) + n % 16)) (cinF ids i 7))) 1#32)
      (omN ids i (16 * (n / 16) + n % 16))) 1023#32) 1040#32 (Scalar.select (IntOp.cmpi .eq (IntOp.minsi (IntOp.muli (IntOp.addi (IntOp.subi (gidx i (n / 16) (ln n))
      (IntOp.maxsi (cmN ids i (16 * (n / 16) + n % 16)) (cinF ids i 7))) 1#32) (omN ids i (16 * (n / 16) + n % 16))) 1023#32) 0#32) (IntOp.addi 1024#32 (lane (ln n)))
      (IntOp.minsi (IntOp.muli (IntOp.addi (IntOp.subi (gidx i (n / 16) (ln n)) (IntOp.maxsi (cmN ids i (16 * (n / 16) + n % 16)) (cinF ids i 7))) 1#32)
      (omN ids i (16 * (n / 16) + n % 16))) 1023#32)) = _
  rw [hp, lane_word]
  show Scalar.select _ _ (Scalar.select _ (IntOp.addi (BitVec.ofNat 32 1024) (BitVec.ofNat 32 (n % 16))) _) = _
  generalize pos (at2 ids (rowN i)) (baseN i + n) = p at hple
  rw [addi_ofNat, minsi_word (by omega) (by norm_num), cmpi_sgt_ofNat (by omega) (by norm_num), select_decide, cmpi_eq_ofNat (by omega) (by norm_num), select_decide]
  split
  · rfl
  · rw [Nat.min_eq_left (by omega)]
    split <;> rfl

/-- Every row asked for is one of the shared table's. -/
theorem posOK : PosOK i ids := fun n hn => by
  rw [posN_word ids i n hn, BitVec.toNat_ofNat]
  split
  · norm_num
  · split <;> omega

end Tile

/-! ## The kernel's result -/

variable {F : FTy → Type} [FloatOps F]

/-- The lookup at a position: the table's row there, NaN past the table's end. -/
def lookup (tab : S1024x128.Idx → F .f32) (p l : ℕ) : F .f32 := if p ≤ 1023 then at2 tab p l else Scalar.ofBits .f32 0x7FC00000#32

/-- The kernel's result is the lookup at every index's position. -/
theorem outF_eq (ids : S4x8192.Idx → BitVec 32) (tab : S1024x128.Idx → F .f32) (x : S4x8192x128.Idx) :
    outF ids tab x = lookup tab (pos (at2 ids (x 0).val) (x 1).val) (x 2).val := by
  have h0 : (x 0).val < 4 := (x 0).isLt
  have h1 : (x 1).val < 8192 := (x 1).isLt
  have hr : rowN (tileAt ((x 0).val / 2) ((x 0).val % 2) ((x 1).val / 1024)) = (x 0).val := by
    rw [rowN_tileAt _ _ _ (by omega) (by omega) (by omega)]; omega
  have hb : baseN (tileAt ((x 0).val / 2) ((x 0).val % 2) ((x 1).val / 1024)) + (x 1).val % 1024 = (x 1).val := by
    rw [baseN_tileAt _ _ _ (by omega) (by omega)]; omega
  unfold outF
  rw [posN_word ids _ _ (by omega), hr, hb, BitVec.toNat_ofNat]
  have hp := pos_le (at2 ids (x 0).val) (x 1).val
  generalize pos (at2 ids (x 0).val) (x 1).val = p at hp
  unfold shtN lookup
  by_cases h : 1023 < p
  · rw [if_pos h, if_neg (by norm_num), if_neg (by norm_num), if_neg (by omega)]
  · rw [if_neg h, if_pos (by omega : p ≤ 1023)]
    by_cases h2 : p = 0
    · rw [if_pos h2, if_neg (by omega), if_pos (by omega), h2]
    · rw [if_neg h2, Nat.mod_eq_of_lt (by omega), if_pos (by omega)]

end Cert.Proof.Embed

end
-- ==== Proof.Ref.lean ====
module

public import proofs.«01_k».proof.Proof.RefOps
public import proofs.«01_k».proof.Proof.Facts
public import Idealize.ShloMosaic.Lib.Pointwise
public import proofs.«01_k».proof.Proof.Gen.ReferenceIdeal
public import proofs.«01_k».proof.Proof.Gen.ReferenceIdeal.Run

@[expose] public section

noncomputable section

namespace Cert.Proof.Embed

open Idealize.ShloMosaic
open Cert.ReferenceIdeal Cert.ReferenceIdeal.Value Cert.ReferenceIdeal.Gen

/-! ## What the reference computes

Each array of the reference at one element, in the natural numbers that the kernel's result is stated in. -/

/-- The element of a two-axis array at the numbers of an index. -/
theorem at2_ix {α : Type} {a b : ℕ} [NeZero a] [NeZero b] (x : (⟨2, ![a, b]⟩ : Shape).Idx → α) (p : Fin a) (q : Fin b) :
    at2 x p.val q.val = x (ix2 p q) := by
  unfold at2
  refine congrArg x (funext fun k => ?_)
  match k with
  | ⟨0, _⟩ => exact Fin.ext (Nat.mod_eq_of_lt p.isLt)
  | ⟨1, _⟩ => exact Fin.ext (Nat.mod_eq_of_lt q.isLt)

/-! ## The two token sets -/

/-- The eleven digit tokens. -/
theorem digit_tokens (w : BitVec 32) : (∃ q : Fin 11, w = lit0 q) ↔ Dig w := by
  constructor
  · rintro ⟨q, rfl⟩
    revert q; decide
  · rintro (h | ⟨h1, h2⟩)
    · exact ⟨0, BitVec.eq_of_toNat_eq h⟩
    · generalize hk : w.toNat = k at h1 h2
      refine ⟨⟨k - 16, by omega⟩, BitVec.eq_of_toNat_eq (hk.trans ?_)⟩
      have hq : ∀ q : Fin 11, 1 ≤ q.val → q.val + 16 = (lit0 q).toNat := by decide
      have := hq ⟨k - 16, by omega⟩ (by show 1 ≤ k - 16; omega)
      rw [← this]
      show k = k - 16 + 16
      omega

/-- The thirteen operand tokens: the digits' and two more. -/
theorem operand_tokens (w : BitVec 32) :
    (∃ q : Fin 13, w = if h : q.val < 11 then lit0 ⟨q.val, h⟩ else lit1 ⟨q.val - 11, by omega⟩) ↔ Opd w := by
  constructor
  · rintro ⟨q, rfl⟩
    revert q; decide
  · rintro (h | h | h)
    · obtain ⟨q, hq⟩ := (digit_tokens w).2 h
      refine ⟨⟨q.val, by omega⟩, ?_⟩
      rw [dif_pos q.isLt]
      exact hq
    · exact ⟨11, BitVec.eq_of_toNat_eq h⟩
    · exact ⟨12, BitVec.eq_of_toNat_eq h⟩

/-- The bit of an «or» over equalities with tokens. -/
theorem any_token {k : ℕ} (w : BitVec 32) (t : Fin k → BitVec 32) (P : Prop) [Decidable P] (h : (∃ q, w = t q) ↔ P) :
    Finset.fold IntOp.ori (0#1) (fun q => IntOp.cmpi .eq w (t q)) Finset.univ = BitVec.ofBool (decide P) := by
  have key := (Routing.fold_ori Finset.univ fun q => IntOp.cmpi .eq w (t q)).trans ((show _ ↔ ∃ q, w = t q from by
    refine exists_congr fun q => ?_
    show q ∈ Finset.univ ∧ BitVec.ofBool (w == t q) = 1#1 ↔ w = t q
    constructor
    · rintro ⟨-, h1⟩
      by_contra e
      rw [beq_eq_false_iff_ne.2 e] at h1
      exact absurd h1 (by decide)
    · intro e
      rw [beq_iff_eq.2 e]
      exact ⟨Finset.mem_univ _, rfl⟩).trans h)
  by_cases hp : P
  · rw [decide_eq_true hp]; exact key.2 hp
  · rw [decide_eq_false hp]
    exact (BitVec.eq_zero_or_eq_one _).resolve_right fun e => hp (key.1 e)

section Run

variable {F : FTy → Type} [FloatOps F] (V0 : Valuation τ sig (Elt F))

/-- The ids. -/
def refIds : S4x8192.Idx → BitVec 32 := V0 (Proc.devRef .tc main_arg0)
/-- A row of the ids. -/
def refRow (b : ℕ) : ℕ → BitVec 32 := at2 (refIds V0) b

theorem refRow_ix (b : Fin 4) (n : Fin 8192) : refRow V0 b.val n.val = refIds V0 (ix2 b n) := at2_ix _ _ _

/-- The index at a row-major position is the index the position was made of. -/
theorem split_ix (b : Fin 4) (n : Fin 8192) (h0 : (b.val * 8192 + n.val) / 8192 < 4) (h1 : (b.val * 8192 + n.val) % 8192 < 8192) :
    (ix2 ⟨(b.val * 8192 + n.val) / 8192, h0⟩ ⟨(b.val * 8192 + n.val) % 8192, h1⟩ : S4x8192.Idx) = ix2 b n :=
  congrArg₂ ix2 (Fin.ext (by dsimp only; omega)) (Fin.ext (by dsimp only; omega))

/-- The digit mask. -/
theorem digits_at (b : Fin 4) (n : Fin 8192) : res_main_v1 V0 (ix2 b n) = BitVec.ofBool (decide (Dig (refRow V0 b n))) := by
  rw [refRow_ix]
  have ht : ∀ q : Fin 11, res_main_c V0 (ix1 q) = lit0 q := fun q => by
    unfold res_main_c
    exact congrArg lit0 (Fin.ext (Shape.rowMajor_val_one _))
  show shapeCast S4x8192 (Host.reduce IntOp.ori (cmpi .eq (broadcastInDim S32768x11 ![0, 1] bcast_S32768x1_S32768x11_0_1 (broadcastInDim S32768x1 ![0] bcast_S32768_S32768x1_0 (shapeCast S32768 (refIds V0) shapeCasts_S4x8192_S32768))) (broadcastInDim S32768x11 ![0, 1] bcast_S1x11_S32768x11_0_1 (broadcastInDim S1x11 ![1] bcast_S11_S1x11_1 (res_main_c V0 : IVec S11 32)))) (constantI S_ 1 0#1) reducesTo_S32768x11_S32768_d1 h_S_) shapeCasts_S32768_S4x8192 (ix2 b n) = _
  generalize (res_main_c V0 : IVec S11 32) = c at ht
  pointwise
  simp only [ht]
  refine any_token _ lit0 (Dig (refIds V0 (ix2 b n))) ?_
  rw [split_ix]
  exact digit_tokens _

/-- The operand mask. -/
theorem operands_at (b : Fin 4) (n : Fin 8192) :
    (shapeCast S4x8192 (Host.reduce IntOp.ori (cmpi .eq (broadcastInDim S32768x13 ![0, 1] bcast_S32768x1_S32768x13_0_1 (broadcastInDim S32768x1 ![0] bcast_S32768_S32768x1_0 (shapeCast S32768 (V0 (Proc.devRef .tc main_arg0)) shapeCasts_S4x8192_S32768))) (broadcastInDim S32768x13 ![0, 1] bcast_S1x13_S32768x13_0_1 (broadcastInDim S1x13 ![1] bcast_S13_S1x13_1 (concatenate S13 0 [⟨S11, (res_main_c V0)⟩, ⟨S2, (fun i => lit1 (S2.rowMajor i))⟩] concatenates_S11_S2_S13_d0)))) (constantI S_ 1 0#1) reducesTo_S32768x13_S32768_d1 h_S_) shapeCasts_S32768_S4x8192) (ix2 b n)
      = BitVec.ofBool (decide (Opd (refRow V0 b n))) := by
  rw [refRow_ix]
  have ht : ∀ q : Fin 11, res_main_c V0 (ix1 q) = lit0 q := fun q => by
    unfold res_main_c
    exact congrArg lit0 (Fin.ext (Shape.rowMajor_val_one _))
  generalize res_main_c V0 = c at ht
  pointwise
  refine any_token _ (fun q : Fin 13 => if h : q.val < 11 then c (ix1 ⟨q.val, h⟩) else lit1 (S2.rowMajor (ix1 ⟨q.val - 11, by omega⟩)))
    (Opd (refIds V0 (ix2 b n))) ?_
  rw [split_ix]
  refine Iff.trans (exists_congr fun q => ?_) (operand_tokens _)
  refine Eq.congr rfl ?_
  by_cases h : q.val < 11
  · rw [dif_pos h, dif_pos h, ht]
  · rw [dif_neg h, dif_neg h]
    exact congrArg lit1 (Fin.ext (Shape.rowMajor_val_one _))

/-- The start mask. -/
theorem starts_at (b : Fin 4) (n : Fin 8192) : res_main_v9 V0 (ix2 b n) = BitVec.ofBool (decide (IsStart (refRow V0 b) n)) := by
  unfold res_main_v9
  have hd := digits_at V0 b
  generalize res_main_v1 V0 = v at hd
  pointwise
  rw [hd n]
  have hp : (if h : n.val < 1 then 0#1 else v (ix2 b ⟨n.val - 1, by omega⟩))
      = BitVec.ofBool (decide (n.val ≠ 0 ∧ Dig (refRow V0 b (n.val - 1)))) := by
    by_cases h : n.val < 1
    · rw [dif_pos h, decide_eq_false (by omega)]; rfl
    · rw [dif_neg h, hd]
      congr 1
      exact decide_eq_decide.2 ⟨fun e => ⟨by omega, e⟩, fun e => e.2⟩
  refine (congrArg (fun t => IntOp.andi (IntOp.cmpi .ne t _) _) hp).trans ?_
  have bits : ∀ p d : Bool, IntOp.andi (IntOp.cmpi .ne (BitVec.ofBool p) (BitVec.ofBool d)) (BitVec.ofBool d)
      = BitVec.ofBool (d && !p) := by decide
  rw [bits, ← decide_not, ← Bool.decide_and]
  congr 1
  refine decide_eq_decide.2 (and_congr_right fun _ => ?_)
  rw [not_and_or, not_not]

/-- The run numbers. -/
theorem segs_at (b : Fin 4) (n : Fin 8192) : res_main_v11 V0 (ix2 b n) = BitVec.ofNat 32 (seg (refRow V0 b) n) := by
  unfold res_main_v11
  rw [← seg_eq_sum]
  refine prefix_row (R := 4) (N := 8192) (M := 8191) rfl (extui 32 (res_main_v9 V0) natLt_1_32) (one (refRow V0 b)) b (fun i => ?_) _ rfl _ _ n
  show (res_main_v9 V0 (ix2 b i)).setWidth 32 = _
  rw [starts_at, one]
  by_cases h : IsStart (refRow V0 b) i
  · rw [decide_eq_true h, if_pos h]; rfl
  · rw [decide_eq_false h, if_neg h]; rfl

/-- The pairs of row and run number. -/
def pairs : IVec S4x8192x2 32 :=
  concatenate S4x8192x2 2 [⟨S4x8192x1, (broadcastInDim S4x8192x1 ![0, 1] bcast_S4x8192_S4x8192x1_0_1 (select (cmpi .slt (res_main_v18 V0) (broadcastInDim S4x8192 ![] bcast_S_S4x8192 (constantI S_ 32 0#32))) (addi (res_main_v18 V0) (broadcastInDim S4x8192 ![] bcast_S_S4x8192 (constantI S_ 32 4#32))) (res_main_v18 V0)))⟩, ⟨S4x8192x1, (broadcastInDim S4x8192x1 ![0, 1] bcast_S4x8192_S4x8192x1_0_1 (select (cmpi .slt (res_main_v11 V0) (broadcastInDim S4x8192 ![] bcast_S_S4x8192 (constantI S_ 32 0#32))) (addi (res_main_v11 V0) (broadcastInDim S4x8192 ![] bcast_S_S4x8192 (constantI S_ 32 8192#32))) (res_main_v11 V0)))⟩] concatenates_S4x8192x1_S4x8192x1_S4x8192x2_d2

/-- An index that is not negative is not wrapped. -/
theorem unwrapped {k : ℕ} (a : BitVec 32) (h : k < 2 ^ 31) :
    Scalar.select (IntOp.cmpi .slt (BitVec.ofNat 32 k) 0#32) a (BitVec.ofNat 32 k) = BitVec.ofNat 32 k :=
  Routing.wrap_of_lt _ a (by rw [WordCmp.toNat_ofNat_of_lt (by omega)]; exact h)

theorem pairs_row (b : Fin 4) (n : Fin 8192) : pairs V0 (ix3 b n 0) = BitVec.ofNat 32 b.val := by
  unfold pairs
  have h : res_main_v18 V0 (ix2 b n) = BitVec.ofNat 32 b.val := by
    unfold res_main_v18
    pointwise
  generalize (res_main_v18 V0 : IVec S4x8192 32) = v at h
  generalize (res_main_v11 V0 : IVec S4x8192 32) = u
  pointwise
  rw [h]
  exact unwrapped _ (by omega)

theorem pairs_col (b : Fin 4) (n : Fin 8192) : pairs V0 (ix3 b n 1) = BitVec.ofNat 32 (seg (refRow V0 b) n) := by
  unfold pairs
  have h := segs_at V0 b n
  generalize (res_main_v18 V0 : IVec S4x8192 32) = v
  generalize (res_main_v11 V0 : IVec S4x8192 32) = u at h
  pointwise
  rw [h]
  exact unwrapped _ (Nat.lt_trans (seg_lt _ _ n.isLt) (by norm_num))

/-- The sums by run: at a run's number, the index where the run starts. -/
theorem sums_at (b : Fin 4) (n : Fin 8192) (c : Fin 8192) (hc : c.val = seg (refRow V0 b) n) :
    Host.scatter scatter_S4x8192_S4x8192x2_S4x8192_n_01_01_2 IntOp.addi (broadcastInDim S4x8192 ![] bcast_S_S4x8192 (constantI S_ 32 0#32))
      (pairs V0) (muli (res_main_v13 V0 : IVec S4x8192 32) (extui 32 (res_main_v9 V0 : IVec S4x8192 1) natLt_1_32)) (ix2 b c)
      = BitVec.ofNat 32 (last (refRow V0 b) n) := by
  have hl : last (refRow V0 b) n < 8192 := Nat.lt_of_le_of_lt (last_le _ _) n.isLt
  rw [← pick_last (refRow V0 b) n, ← hc]
  refine scatter_pick (R := 4) (C := 8192) scatter_S4x8192_S4x8192x2_S4x8192_n_01_01_2 rfl rfl rfl _ (pairs V0) _ (by norm_num) (by norm_num)
    (fun a i => seg (refRow V0 a) i) (fun a i => st (refRow V0 a) i) (fun a i => ?_) (pairs_row V0) (pairs_col V0) (fun a i => ?_) b c
    ⟨last (refRow V0 b) n, hl⟩ rfl (fun i hi he => ?_)
  · exact Nat.lt_trans (seg_lt _ _ i.isLt) (by norm_num)
  · have hs := starts_at V0 a i
    have hv : res_main_v13 V0 (ix2 a i) = BitVec.ofNat 32 i.val := by
      unfold res_main_v13
      pointwise
    show IntOp.muli (res_main_v13 V0 (ix2 a i)) ((res_main_v9 V0 (ix2 a i)).setWidth 32) = _
    rw [hs, hv, st]
    by_cases h : IsStart (refRow V0 a) i
    · rw [decide_eq_true h, if_pos h]
      exact BitVec.mul_one _
    · rw [decide_eq_false h, if_neg h]
      exact BitVec.mul_zero
  · exact pick _ (fun e => hi (Fin.ext e)) (he.trans hc)

/-- The positions. -/
theorem pos_at (b : Fin 4) (n : Fin 8192) : res_main_v52 V0 (ix2 b n) = BitVec.ofNat 32 (pos (refRow V0 b) n) := by
  have hl := last_le (refRow V0 b) n
  have hn := n.isLt
  have hv : res_main_v13 V0 (ix2 b n) = BitVec.ofNat 32 n.val := by
    unfold res_main_v13
    pointwise
  have hg := (gather_pair (R := 4) (C := 8192) gather_S4x8192_S4x8192x2_S4x8192_n_01_n_n_01_2_11 rfl rfl rfl rfl rfl
    (Host.scatter scatter_S4x8192_S4x8192x2_S4x8192_n_01_01_2 IntOp.addi (broadcastInDim S4x8192 ![] bcast_S_S4x8192 (constantI S_ 32 0#32))
      (pairs V0) (muli (res_main_v13 V0 : IVec S4x8192 32) (extui 32 (res_main_v9 V0 : IVec S4x8192 1) natLt_1_32)))
    (pairs V0) (by norm_num) (by norm_num) b n b ⟨seg (refRow V0 b) n, seg_lt _ _ n.isLt⟩ (pairs_row V0 b n) (pairs_col V0 b n)).trans
    (sums_at V0 b n ⟨seg (refRow V0 b) n, seg_lt _ _ n.isLt⟩ rfl)
  have ho := operands_at V0 b n
  show IntOp.muli (IntOp.addi (IntOp.subi (res_main_v13 V0 (ix2 b n)) (Host.gather gather_S4x8192_S4x8192x2_S4x8192_n_01_n_n_01_2_11 _ _ (ix2 b n))) 1#32)
    (BitVec.setWidth 32 (shapeCast S4x8192 _ _ (ix2 b n))) = _
  refine (congrArg₂ IntOp.muli (congrArg₂ IntOp.addi (congrArg₂ IntOp.subi hv hg) rfl) (congrArg (BitVec.setWidth 32) ho)).trans ?_
  unfold pos
  by_cases h : Opd (refRow V0 b n)
  · rw [decide_eq_true h, if_pos h]
    refine (BitVec.mul_one _).trans ?_
    show BitVec.ofNat 32 n.val - BitVec.ofNat 32 (last (refRow V0 b) n) + BitVec.ofNat 32 1 = _
    rw [BitVec.ofNat_sub_ofNat_of_le _ _ (by omega) hl, ← BitVec.ofNat_add]
  · rw [decide_eq_false h, if_neg h]
    exact BitVec.mul_zero

/-- The row numbers the table is read at. -/
theorem rows_at (b : Fin 4) (n : Fin 8192) : res_main_call3_v5 V0 (ix3 b n 0) = BitVec.ofNat 32 (pos (refRow V0 b) n) := by
  unfold res_main_call3_v5 res_main_v58
  have h := pos_at V0 b n
  generalize (res_main_v52 V0 : IVec S4x8192 32) = v at h
  pointwise
  have hz : ∀ x y : BitVec 32, IntOp.addi x (IntOp.muli y 0#32) = x := fun x y => by
    show x + y * 0#32 = x
    rw [BitVec.mul_zero, BitVec.add_zero]
  rw [hz, h]
  exact unwrapped _ (Nat.lt_of_le_of_lt (pos_le _ _) (by omega))

/-- The reference's result: each row of the table at its position, NaN where the position is past the table. -/
theorem result_at (tab : S1024x128.Idx → F .f32) (p : IVec S4x8192x1 32) (r : ℕ → BitVec 32) (b : Fin 4) (n : Fin 8192) (l : Fin 128)
    (hp : p (ix3 b n 0) = BitVec.ofNat 32 (pos r n)) :
    select (broadcastInDim S4x8192x128 ![0, 1] bcast_S4x8192_S4x8192x128_0_1 (Host.reduce IntOp.andi (andi (cmpi .sge p (broadcastInDim S4x8192x1 ![] bcast_S_S4x8192x1 (constantI S_ 32 0#32))) (cmpi .sle p (broadcastInDim S4x8192x1 ![0, 1, 2] bcast_S1x1x1_S4x8192x1_0_1_2 (broadcastInDim S1x1x1 ![2] bcast_S1_S1x1x1_2 (constantI S1 32 1023#32))))) (constantI S_ 1 1#1) reducesTo_S4x8192x1_S4x8192_d2 h_S_)) (Host.gather gather_S1024x128_S4x8192x1_S4x8192x128_2_0_n_n_0_2_1128 tab p) (broadcastInDim S4x8192x128 ![] bcast_S_S4x8192x128 (constant S_ .f32 0x7FC00000#32)) (ix3 b n l)
      = lookup tab (pos r n) l := by
  have hpos : pos r n < 2 ^ 31 := Nat.lt_of_le_of_lt (pos_le _ _) (by omega)
  pointwise
  have hf : ∀ f : Fin 1 → BitVec 1, Finset.fold IntOp.andi (1#1) f Finset.univ = IntOp.andi (f 0) 1#1 := fun f => by
    rw [Finset.univ_unique, Finset.fold_singleton]; rfl
  rw [hf]
  rw [hp, WordCmp.cmpi_sge_ofNat hpos (by norm_num), WordCmp.cmpi_sle_ofNat hpos (by norm_num), decide_eq_true (Nat.zero_le _), lookup]
  by_cases h : pos r n ≤ 1023
  · rw [decide_eq_true h, if_pos h]
    refine (gather_rows (N := 1024) (L := 128) (A := 4) (B := 8192) gather_S1024x128_S4x8192x1_S4x8192x128_2_0_n_n_0_2_1128 rfl rfl rfl rfl rfl tab p
      (by norm_num) b n l ⟨pos r n, by omega⟩ hp).trans ?_
    exact (at2_ix tab (⟨pos r n, by omega⟩ : Fin 1024) l).symm
  · rw [decide_eq_false h, if_neg h]
    rfl

/-- The reference's result is the kernel's. -/
theorem result_eq :
    (select (broadcastInDim S4x8192x128 ![0, 1] bcast_S4x8192_S4x8192x128_0_1 (Host.reduce IntOp.andi (andi (cmpi .sge (res_main_call3_v5 V0) (broadcastInDim S4x8192x1 ![] bcast_S_S4x8192x1 (constantI S_ 32 0#32))) (cmpi .sle (res_main_call3_v5 V0) (broadcastInDim S4x8192x1 ![0, 1, 2] bcast_S1x1x1_S4x8192x1_0_1_2 (broadcastInDim S1x1x1 ![2] bcast_S1_S1x1x1_2 (constantI S1 32 1023#32))))) (constantI S_ 1 1#1) reducesTo_S4x8192x1_S4x8192_d2 h_S_)) (Host.gather gather_S1024x128_S4x8192x1_S4x8192x128_2_0_n_n_0_2_1128 (V0 (Proc.devRef .tc main_arg1)) (res_main_call3_v5 V0)) (broadcastInDim S4x8192x128 ![] bcast_S_S4x8192x128 (constant S_ .f32 0x7FC00000#32)) : S4x8192x128.Idx → F .f32)
      = outF (V0 (Proc.devRef .tc main_arg0)) (V0 (Proc.devRef .tc main_arg1)) := by
  funext x
  obtain ⟨b, n, l, rfl⟩ : ∃ (b : Fin 4) (n : Fin 8192) (l : Fin 128), x = ix3 b n l := ⟨x 0, x 1, x 2, eq_ix3 x⟩
  exact (result_at (V0 (Proc.devRef .tc main_arg1)) (res_main_call3_v5 V0) (refRow V0 b) b n l (rows_at V0 b n)).trans
    (outF_eq (refIds V0) (V0 (Proc.devRef .tc main_arg1)) (ix3 b n l)).symm

end Run

end Cert.Proof.Embed
-- ==== Proof.lean ====
/- The proof of the certificate's claims. The kernel's run is `Embed.run_main`, at any float values. -/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.Gen.ReferenceIdeal.Run
public import proofs.«01_k».proof.Proof.Launch
public import proofs.«01_k».proof.Proof.Ref
public import Idealize.ShloMosaic.Adequacy
public import Idealize.ShloMosaic.Init

@[expose] public section

set_option maxRecDepth 8192
set_option maxHeartbeats 0

noncomputable section

namespace Cert.Proof

open Idealize.ShloMosaic Idealize.SL.Sem

section Run

variable {F : FTy → Type} [FloatOps F]
variable (m : (ℓ : Loc Cert.KernelIdeal.nD Cert.KernelIdeal.τ Cert.KernelIdeal.sig) → Buf (Elt F) ℓ) (ρ : Dev Cert.KernelIdeal.nD → PrngReg)

/-- The kernel's run, at any float values: the arguments unchanged, the result the lookup at every index's position, every semaphore at zero. -/
theorem run_main [∀ e, Nonempty (Elt F e)] :
    θ_run (Cert.KernelIdeal.defs (F := F)) (Cert.KernelIdeal.threads (F := F)) ⟨m, fun _ => 0, ρ⟩ (Embed.QC m) :=
  Embed.run_at m ρ fun d i => Embed.posOK (Embed.idsM m d) i

set_option maxRecDepth 8192 in
/-- The reference's run, at any float values, from a memory that holds the kernel's arguments: the kernel's result, the arguments unchanged. -/
theorem run_reference (m' : (ℓ : Loc Cert.ReferenceIdeal.nD Cert.ReferenceIdeal.τ Cert.ReferenceIdeal.sig) → Buf (Elt F) ℓ)
    (ρ' : Dev Cert.ReferenceIdeal.nD → PrngReg)
    (h0 : ∀ c : Dev Cert.KernelIdeal.nD, m' ((c.tc : Thread Cert.ReferenceIdeal.nD Cert.ReferenceIdeal.τ).loc Cert.ReferenceIdeal.main_arg0) = Embed.idsM m c)
    (h1 : ∀ c : Dev Cert.KernelIdeal.nD, m' ((c.tc : Thread Cert.ReferenceIdeal.nD Cert.ReferenceIdeal.τ).loc Cert.ReferenceIdeal.main_arg1) = Embed.tabM m c) :
    θ_run (Cert.ReferenceIdeal.defs (F := F)) (onTc (τ := Cert.ReferenceIdeal.τ) (Cert.ReferenceIdeal.main (F := F))) ⟨m', fun _ => 0, ρ'⟩ fun r =>
      ∀ c : Dev Cert.ReferenceIdeal.nD,
        r.2.mem ((c.tc : Thread Cert.ReferenceIdeal.nD Cert.ReferenceIdeal.τ).loc Cert.ReferenceIdeal.main_v59) = Embed.outM' m c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1) :=
  (θ_run Cert.ReferenceIdeal.defs _ _).mono
    (fun _ h c => ⟨((h c).1.trans (Embed.result_eq (StableHlo.launchContents m' c))).trans (congrArg₂ Embed.outF (h0 c) (h1 c)), (h c).2.1, (h c).2.2⟩)
    (Cert.ReferenceIdeal.Value.run m' ρ')

set_option maxRecDepth 8192 in
/-- The reference's run, at any float values: the arguments unchanged, and it has no semaphore. -/
theorem frame_of_reference (m' : (ℓ : Loc Cert.ReferenceIdeal.nD Cert.ReferenceIdeal.τ Cert.ReferenceIdeal.sig) → Buf (Elt F) ℓ)
    (ρ' : Dev Cert.ReferenceIdeal.nD → PrngReg) :
    θ_run (Cert.ReferenceIdeal.defs (F := F)) (onTc (τ := Cert.ReferenceIdeal.τ) (Cert.ReferenceIdeal.main (F := F))) ⟨m', fun _ => 0, ρ'⟩ fun r =>
      (∀ c : Dev Cert.ReferenceIdeal.nD,
        r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))
      ∧ r.2.sem = fun _ => 0 :=
  (θ_run Cert.ReferenceIdeal.defs _ _).mono (fun r h => ⟨fun c => ⟨(h c).2.1, (h c).2.2⟩, sem_eq_zero_of_no_sems (by decide) r.2⟩)
    (Cert.ReferenceIdeal.Value.run m' ρ')

end Run

/-- The kernel runs, its arguments unchanged and every semaphore at zero. -/
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

/-- The same of the kernel at the ideal instance. -/
theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference at the ideal instance runs, its arguments unchanged and every semaphore at zero. -/
theorem frame_referenceIdeal : Cert.quiescent_ReferenceIdeal := fun m ρ _ => frame_of_reference (F := Ideal) m ρ

/-- The same of the reference at the bit-exact instance. -/
theorem frame_reference : Cert.quiescent_Reference := fun m ρ _ => frame_of_reference (F := Bits) m ρ

/-- At the ideal instance the kernel and the reference end with one result. -/
theorem algebraic : Cert.algebraic_KernelIdeal_ReferenceIdeal := fun m g m' g' _ hm =>
  ⟨fun c => Embed.outM' m c,
    (θ_run Cert.KernelIdeal.defs _ _).mono (fun _ h c => ⟨(h.1 c).2.2, (h.1 c).1, (h.1 c).2.1⟩) (run_main (F := Ideal) m g),
    run_reference m m' g' (fun c => (hm c).1) fun c => (hm c).2⟩

/-- Bit for bit too: neither does anything to a table's element but move it. -/
theorem bitexact : Cert.bitexact_Kernel_Reference := fun m g m' g' _ hm =>
  ⟨fun c => Embed.outM' m c,
    (θ_run Cert.KernelIdeal.defs _ _).mono (fun _ h c => ⟨(h.1 c).2.2, (h.1 c).1, (h.1 c).2.1⟩) (run_main (F := Bits) m g),
    run_reference (F := Bits) m m' g' (fun c => (hm c).1) fun c => (hm c).2⟩

theorem claim : Cert.Claim :=
  ⟨Cert.Kernel.Gen.facts, Cert.KernelIdeal.Gen.facts, Cert.ReferenceIdeal.Gen.facts, Cert.Reference.Gen.facts, frame_kernel, frame_kernelIdeal,
    frame_referenceIdeal, frame_reference, trivial, algebraic, bitexact⟩

end Cert.Proof

end
